-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_nonnegative [hPre_finite_and_nonnegative : Cert.Pre_finite_and_nonnegative.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_nonnegative.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_nonnegative [hPre_finite_and_nonnegative : Cert.Pre_finite_and_nonnegative.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_nonnegative.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_and_nonnegative [hKernelIdeal : Cert.KernelIdeal.Facts] [hPre_finite_and_nonnegative : Cert.Pre_finite_and_nonnegative.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_nonnegative m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_and_nonnegative [hReferenceIdeal : Cert.ReferenceIdeal.Facts] [hPre_finite_and_nonnegative : Cert.Pre_finite_and_nonnegative.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_nonnegative m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_and_nonnegative [hKernelIdeal : Cert.KernelIdeal.Facts] [hReferenceIdeal : Cert.ReferenceIdeal.Facts] [hPre_finite_and_nonnegative : Cert.Pre_finite_and_nonnegative.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_nonnegative m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_and_nonnegative : Cert.Pre_finite_and_nonnegative.Facts),
    quiescent_Kernel (hKernel := hKernel)
    ∧ quiescent_KernelIdeal (hKernelIdeal := hKernelIdeal)
    ∧ quiescent_KernelIdeal_pre_finite_and_nonnegative (hKernelIdeal := hKernelIdeal) (hPre_finite_and_nonnegative := hPre_finite_and_nonnegative)
    ∧ quiescent_ReferenceIdeal (hReferenceIdeal := hReferenceIdeal)
    ∧ quiescent_ReferenceIdeal_pre_finite_and_nonnegative (hReferenceIdeal := hReferenceIdeal) (hPre_finite_and_nonnegative := hPre_finite_and_nonnegative)
    ∧ preserves_Kernel_KernelIdeal
    ∧ algebraic_KernelIdeal_ReferenceIdeal_pre_finite_and_nonnegative (hKernelIdeal := hKernelIdeal) (hReferenceIdeal := hReferenceIdeal) (hPre_finite_and_nonnegative := hPre_finite_and_nonnegative)
-- ==== Pre_finite_and_nonnegative.lean ====
abbrev S4096x512 : Shape := ⟨2, ![4096, 512]⟩
abbrev S4096x64 : Shape := ⟨2, ![4096, 64]⟩
abbrev S64x512 : Shape := ⟨2, ![64, 512]⟩
abbrev S4096x4096 : Shape := ⟨2, ![4096, 4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64x512 : S_.BroadcastsInDim S64x512 (![] : Fin 0 → Fin S64x512.rank)
  reducesTo_S64x512_S_d0_1 : S64x512.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg4 : FVec F S4096x512 .f32) (main_v12 : IVec S_ 1) (main_v15 : IVec S4096x4096 1) (main_c_5 : IVec S_ 1) : IVec S_ 1 :=
  let main_v16 : IVec S_ 1 := (fun x v => Host.reduce IntOp.andi x v reducesTo_S4096x4096_S_d0_1 h_S_) main_v15 main_c_5
  let main_v17 : IVec S_ 1 := andi main_v12 main_v16
  let main_v18 : FVec F S4096x512 .f32 := Host.absf main_arg4
  let main_cst_6 : FVec F S_ .f32 := constant S_ .f32 0x7F800000#32
  let main_v19 : FVec F S4096x512 .f32 := broadcastInDim S4096x512 ![] bcast_S_S4096x512 main_cst_6
  let main_v20 : IVec S4096x512 1 := cmpf .olt main_v18 main_v19
  let main_c_7 : IVec S_ 1 := constantI S_ 1 1#1
  let main_v21 : IVec S_ 1 := (fun x v => Host.reduce IntOp.andi x v reducesTo_S4096x512_S_d0_1 h_S_) main_v20 main_c_7
  let main_v22 : IVec S_ 1 := andi main_v17 main_v21
  main_v22

def fn {F : FTy → Type} [FloatOps F] (main_arg0 : IVec S4096x512 32) (main_arg1 : FVec F S4096x64 .f32) (main_arg2 : FVec F S64x512 .f32) (main_arg3 : FVec F S4096x4096 .f32) (main_arg4 : FVec F S4096x512 .f32) : IVec S_ 1 :=
  let main_c : IVec S_ 32 := constantI S_ 32 0#32
  let main_v0 : IVec S4096x512 32 := broadcastInDim S4096x512 ![] bcast_S_S4096x512 main_c
  let main_v1 : IVec S4096x512 1 := cmpi .sge main_arg0 main_v0
  let main_c_0 : IVec S_ 1 := constantI S_ 1 1#1
  let main_v2 : IVec S_ 1 := (fun x v => Host.reduce IntOp.andi x v reducesTo_S4096x512_S_d0_1 h_S_) main_v1 main_c_0
  let main_v3 : FVec F S4096x64 .f32 := Host.absf main_arg1
  let main_cst : FVec F S_ .f32 := constant S_ .f32 0x7F800000#32
  let main_v4 : FVec F S4096x64 .f32 := broadcastInDim S4096x64 ![] bcast_S_S4096x64 main_cst
  let main_v5 : IVec S4096x64 1 := cmpf .olt main_v3 main_v4
  let main_c_1 : IVec S_ 1 := constantI S_ 1 1#1
  let main_v6 : IVec S_ 1 := (fun x v => Host.reduce IntOp.andi x v reducesTo_S4096x64_S_d0_1 h_S_) main_v5 main_c_1
  let main_v7 : IVec S_ 1 := andi main_v2 main_v6
  let main_v8 : FVec F S64x512 .f32 := Host.absf main_arg2
  let main_cst_2 : FVec F S_ .f32 := constant S_ .f32 0x7F800000#32
  let main_v9 : FVec F S64x512 .f32 := broadcastInDim S64x512 ![] bcast_S_S64x512 main_cst_2
  let main_v10 : IVec S64x512 1 := cmpf .olt main_v8 main_v9
  let main_c_3 : IVec S_ 1 := constantI S_ 1 1#1
  let main_v11 : IVec S_ 1 := (fun x v => Host.reduce IntOp.andi x v reducesTo_S64x512_S_d0_1 h_S_) main_v10 main_c_3
  let main_v12 : IVec S_ 1 := andi main_v7 main_v11
  let main_v13 : FVec F S4096x4096 .f32 := Host.absf main_arg3
  let main_cst_4 : FVec F S_ .f32 := constant S_ .f32 0x7F800000#32
  let main_v14 : FVec F S4096x4096 .f32 := broadcastInDim S4096x4096 ![] bcast_S_S4096x4096 main_cst_4
  let main_v15 : IVec S4096x4096 1 := cmpf .olt main_v13 main_v14
  let main_c_5 : IVec S_ 1 := constantI S_ 1 1#1
  fn_part1 (F := F) main_arg4 main_v12 main_v15 main_c_5
-- ==== Kernel.lean ====
abbrev S4096x512 : Shape := ⟨2, ![4096, 512]⟩
abbrev S4096x64 : Shape := ⟨2, ![4096, 64]⟩
abbrev S64x512 : Shape := ⟨2, ![64, 512]⟩
abbrev S4096x4096 : Shape := ⟨2, ![4096, 4096]⟩
abbrev S512x4096 : Shape := ⟨2, ![512, 4096]⟩
abbrev S512x512 : Shape := ⟨2, ![512, 512]⟩
abbrev S512x64 : Shape := ⟨2, ![512, 64]⟩
abbrev S64x4096 : Shape := ⟨2, ![64, 4096]⟩
abbrev S1x4096 : Shape := ⟨2, ![1, 4096]⟩
abbrev S4096 : Shape := ⟨1, ![4096]⟩
abbrev S1x1024 : Shape := ⟨2, ![1, 1024]⟩
abbrev S4096x1024 : Shape := ⟨2, ![4096, 1024]⟩
abbrev S64x1024 : Shape := ⟨2, ![64, 1024]⟩
abbrev S512x1024 : Shape := ⟨2, ![512, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩
abbrev S_ : Shape := ⟨0, ![]⟩

abbrev nBuf : Space → Nat
  | .hbm => 19
  | .vmem => 23
  | .smem => 0
  | _ => 0

abbrev bufTy : (tb : Table) → Fin (tcTables nBuf tb) → BufTy
  | .hbm, ⟨0, _⟩ => ⟨S4096x512, .i32⟩
  | .hbm, ⟨1, _⟩ => ⟨S4096x64, .f32⟩
  | .hbm, ⟨2, _⟩ => ⟨S64x512, .f32⟩
  | .hbm, ⟨3, _⟩ => ⟨S4096x4096, .f32⟩
  | .hbm, ⟨4, _⟩ => ⟨S4096x512, .f32⟩
  | .hbm, ⟨5, _⟩ => ⟨S4096x4096, .fp8e4m3⟩
  | .hbm, ⟨6, _⟩ => ⟨S64x512, .bf16⟩
  | .hbm, ⟨7, _⟩ => ⟨S512x64, .bf16⟩
  | .hbm, ⟨8, _⟩ => ⟨S64x512, .fp8e4m3⟩
  | .hbm, ⟨9, _⟩ => ⟨S512x64, .fp8e4m3⟩
  | .hbm, ⟨10, _⟩ => ⟨S64x4096, .f32⟩
  | .hbm, ⟨11, _⟩ => ⟨S512x4096, .bf16⟩
  | .hbm, ⟨12, _⟩ => ⟨S64x4096, .f32⟩
  | .hbm, ⟨13, _⟩ => ⟨S1x4096, .f32⟩
  | .hbm, ⟨14, _⟩ => ⟨S64x4096, .f32⟩
  | .hbm, ⟨15, _⟩ => ⟨S4096x64, .f32⟩
  | .hbm, ⟨16, _⟩ => ⟨S_, .f32⟩
  | .hbm, ⟨17, _⟩ => ⟨S4096x64, .f32⟩
  | .hbm, ⟨18, _⟩ => ⟨S4096x64, .f32⟩
  | .local _ .vmem, ⟨0, _⟩ => ⟨S512x4096, .f32⟩
  | .local _ .vmem, ⟨1, _⟩ => ⟨S512x4096, .f32⟩
  | .local _ .vmem, ⟨2, _⟩ => ⟨S4096x512, .fp8e4m3⟩
  | .local _ .vmem, ⟨3, _⟩ => ⟨S4096x512, .fp8e4m3⟩
  | .local _ .vmem, ⟨4, _⟩ => ⟨S4096x512, .i32⟩
  | .local _ .vmem, ⟨5, _⟩ => ⟨S4096x512, .f32⟩
  | .local _ .vmem, ⟨6, _⟩ => ⟨S64x512, .f32⟩
  | .local _ .vmem, ⟨7, _⟩ => ⟨S64x512, .fp8e4m3⟩
  | .local _ .vmem, ⟨8, _⟩ => ⟨S512x64, .fp8e4m3⟩
  | .local _ .vmem, ⟨9, _⟩ => ⟨S512x4096, .bf16⟩
  | .local _ .vmem, ⟨10, _⟩ => ⟨S64x4096, .f32⟩
  | .local _ .vmem, ⟨11, _⟩ => ⟨S1x4096, .f32⟩
  | .local _ .vmem, ⟨12, _⟩ => ⟨S4096x4096, .fp8e4m3⟩
  | .local _ .vmem, ⟨13, _⟩ => ⟨S512x4096, .bf16⟩
  | .local _ .vmem, ⟨14, _⟩ => ⟨S64x512, .f32⟩
  | .local _ .vmem, ⟨15, _⟩ => ⟨S64x512, .bf16⟩
  | .local _ .vmem, ⟨16, _⟩ => ⟨S512x64, .bf16⟩
  | .local _ .vmem, ⟨17, _⟩ => ⟨S64x4096, .f32⟩
  | .local _ .vmem, ⟨18, _⟩ => ⟨S1x4096, .f32⟩
  | .local _ .vmem, ⟨19, _⟩ => ⟨S64x4096, .f32⟩
  | .local _ .vmem, ⟨20, _⟩ => ⟨S64x4096, .f32⟩
  | .local _ .vmem, ⟨21, _⟩ => ⟨S64x4096, .f32⟩
  | .local _ .vmem, ⟨22, _⟩ => ⟨S64x4096, .f32⟩
  | _, _ => ⟨S4096x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc1_stg4_0 : Ref sig .tc := ⟨.vmem, 8, rfl⟩
abbrev cc1_stg5_0 : Ref sig .tc := ⟨.vmem, 9, rfl⟩
abbrev cc1_stg6_0 : Ref sig .tc := ⟨.vmem, 10, rfl⟩
abbrev cc1_stg7_0 : Ref sig .tc := ⟨.vmem, 11, rfl⟩
abbrev cc2_stg0_0 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg6_0 : Ref sig .tc := ⟨.vmem, 18, rfl⟩
abbrev cc2_stg7_0 : Ref sig .tc := ⟨.vmem, 19, rfl⟩
abbrev cc2_stg8_0 : Ref sig .tc := ⟨.vmem, 20, rfl⟩
abbrev cc2_scratch0 : Ref sig .tc := ⟨.vmem, 21, rfl⟩
abbrev cc2_scratch1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem5_0 : DmaSem sig := 9
abbrev cc1_sem6_0 : DmaSem sig := 10
abbrev cc1_sem7_0 : DmaSem sig := 11
abbrev cc2_sem0_0 : DmaSem sig := 12
abbrev cc2_sem1_0 : DmaSem sig := 13
abbrev cc2_sem2_0 : DmaSem sig := 14
abbrev cc2_sem3_0 : DmaSem sig := 15
abbrev cc2_sem4_0 : DmaSem sig := 16
abbrev cc2_sem5_0 : DmaSem sig := 17
abbrev cc2_sem6_0 : DmaSem sig := 18
abbrev cc2_sem7_0 : DmaSem sig := 19
abbrev cc2_sem8_0 : DmaSem sig := 20

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := .none

@[reducible] def k1_t1_loop : Scf.Loop 32 :=
  let c0_i32 : BitVec 32 := 0#32
  let c32_i32 : BitVec 32 := 32#32
  let v25 : BitVec 32 := Scalar.addi c0_i32 c32_i32
  let c1_i32 : BitVec 32 := 1#32
  ⟨c0_i32, v25, c1_i32⟩
abbrev stage1_0 : Fin 1 → Memref sig .tc .vmem S4096x512 .i32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S4096x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S64x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S64x512 .fp8e4m3 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S512x64 .fp8e4m3 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S512x4096 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S64x4096 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x4096 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev grid2 : Pipeline.Grid := .none

@[reducible] def k2_t1_loop : Scf.Loop 32 :=
  let c0_i32 : BitVec 32 := 0#32
  let c19_i32 : BitVec 32 := 19#32
  let v15 : BitVec 32 := Scalar.addi c0_i32 c19_i32
  let c1_i32 : BitVec 32 := 1#32
  ⟨c0_i32, v15, c1_i32⟩
abbrev stage2_0 : Fin 1 → Memref sig .tc .vmem S4096x4096 .fp8e4m3 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S512x4096 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S64x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S64x512 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S512x64 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S64x4096 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S1x4096 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

abbrev stage2_7 : Fin 1 → Memref sig .tc .vmem S64x4096 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))

abbrev stage2_8 : Fin 1 → Memref sig .tc .vmem S64x4096 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
-- ==== ReferenceIdeal.lean ====
abbrev S4096x512 : Shape := ⟨2, ![4096, 512]⟩
abbrev S4096x64 : Shape := ⟨2, ![4096, 64]⟩
abbrev S64x512 : Shape := ⟨2, ![64, 512]⟩
abbrev S4096x4096 : Shape := ⟨2, ![4096, 4096]⟩
abbrev S512x64 : Shape := ⟨2, ![512, 64]⟩
abbrev S64x64 : Shape := ⟨2, ![64, 64]⟩
abbrev S_ : Shape := ⟨0, ![]⟩
abbrev S64x1x512 : Shape := ⟨3, ![64, 1, 512]⟩
abbrev S1x64x512 : Shape := ⟨3, ![1, 64, 512]⟩
abbrev S64x64x512 : Shape := ⟨3, ![64, 64, 512]⟩
abbrev S4096x64x64 : Shape := ⟨3, ![4096, 64, 64]⟩
abbrev S1x64x64 : Shape := ⟨3, ![1, 64, 64]⟩
abbrev S4096 : Shape := ⟨1, ![4096]⟩
abbrev S4096x1 : Shape := ⟨2, ![4096, 1]⟩

abbrev nBuf : Space → Nat
  | .hbm => 139
  | .vmem => 0
  | .smem => 0
  | _ => 0

abbrev hbmTy0_0 (i : Nat) : BufTy := match i % 128 with
  | 0 => ⟨S4096x512, .i32⟩
  | 1 => ⟨S4096x64, .f32⟩
  | 2 => ⟨S64x512, .f32⟩
  | 3 => ⟨S4096x4096, .f32⟩
  | 4 => ⟨S4096x512, .f32⟩
  | 5 => ⟨S4096x512, .f32⟩
  | 6 => ⟨S4096x512, .f32⟩
  | 7 => ⟨S512x64, .f32⟩
  | 8 => ⟨S4096x64, .f32⟩
  | 9 => ⟨S64x64, .i32⟩
  | 10 => ⟨S64x64, .i32⟩
  | 11 => ⟨S_, .i32⟩
  | 12 => ⟨S64x64, .i32⟩
  | 13 => ⟨S64x64, .i32⟩
  | 14 => ⟨S64x64, .i1⟩
  | 15 => ⟨S64x64, .f32⟩
  | 16 => ⟨S64x1x512, .f32⟩
  | 17 => ⟨S1x64x512, .f32⟩
  | 18 => ⟨S64x64x512, .f32⟩
  | 19 => ⟨S64x64x512, .f32⟩
  | 20 => ⟨S64x64x512, .f32⟩
  | 21 => ⟨S4096x64x64, .f32⟩
  | 22 => ⟨S_, .f32⟩
  | 23 => ⟨S64x64, .f32⟩
  | 24 => ⟨S64x64, .f32⟩
  | 25 => ⟨S1x64x64, .f32⟩
  | 26 => ⟨S4096x64x64, .f32⟩
  | 27 => ⟨S4096x64x64, .f32⟩
  | 28 => ⟨S64x64, .i32⟩
  | 29 => ⟨S64x64, .i32⟩
  | 30 => ⟨S_, .i32⟩
  | 31 => ⟨S64x64, .i32⟩
  | 32 => ⟨S64x64, .i32⟩
  | 33 => ⟨S64x64, .i1⟩
  | 34 => ⟨S64x64, .f32⟩
  | 35 => ⟨S1x64x64, .f32⟩
  | 36 => ⟨S4096x64x64, .f32⟩
  | 37 => ⟨S4096x64x64, .f32⟩
  | 38 => ⟨S_, .f32⟩
  | 39 => ⟨S4096x64, .f32⟩
  | 40 => ⟨S_, .f32⟩
  | 41 => ⟨S4096, .f32⟩
  | 42 => ⟨S4096x1, .f32⟩
  | 43 => ⟨S4096x64, .f32⟩
  | 44 => ⟨S4096x64, .f32⟩
  | 45 => ⟨S_, .i32⟩
  | 46 => ⟨S4096x64x64, .f32⟩
  | 47 => ⟨S_, .i32⟩
  | 48 => ⟨S4096x64, .f32⟩
  | 49 => ⟨S_, .i32⟩
  | 50 => ⟨S_, .i1⟩
  | 51 => ⟨S4096x64, .f32⟩
  | 52 => ⟨S4096x64, .f32⟩
  | 53 => ⟨S_, .f32⟩
  | 54 => ⟨S4096, .f32⟩
  | 55 => ⟨S4096x1, .f32⟩
  | 56 => ⟨S4096x64, .f32⟩
  | 57 => ⟨S4096x64, .f32⟩
  | 58 => ⟨S_, .i32⟩
  | 59 => ⟨S_, .i32⟩
  | 60 => ⟨S4096x64, .f32⟩
  | 61 => ⟨S4096x64, .f32⟩
  | 62 => ⟨S_, .f32⟩
  | 63 => ⟨S4096, .f32⟩
  | 64 => ⟨S4096x1, .f32⟩
  | 65 => ⟨S4096x64, .f32⟩
  | 66 => ⟨S_, .f32⟩
  | 67 => ⟨S4096, .f32⟩
  | 68 => ⟨S4096x1, .f32⟩
  | 69 => ⟨S4096x1, .f32⟩
  | 70 => ⟨S_, .f32⟩
  | 71 => ⟨S_, .i1⟩
  | 72 => ⟨S_, .i32⟩
  | 73 => ⟨S4096x64x64, .f32⟩
  | 74 => ⟨S4096x1, .f32⟩
  | 75 => ⟨S4096x4096, .f32⟩
  | 76 => ⟨S4096x64, .f32⟩
  | 77 => ⟨S_, .f32⟩
  | 78 => ⟨S_, .i32⟩
  | 79 => ⟨S4096x64, .f32⟩
  | 80 => ⟨S_, .i1⟩
  | 81 => ⟨S_, .i32⟩
  | 82 => ⟨S_, .i1⟩
  | 83 => ⟨S4096x64, .f32⟩
  | 84 => ⟨S4096x64, .f32⟩
  | 85 => ⟨S4096x64, .f32⟩
  | 86 => ⟨S4096x64, .f32⟩
  | 87 => ⟨S4096x64, .f32⟩
  | 88 => ⟨S_, .f32⟩
  | 89 => ⟨S4096x64, .f32⟩
  | 90 => ⟨S4096x64, .f32⟩
  | 91 => ⟨S4096x64, .f32⟩
  | 92 => ⟨S4096x64, .f32⟩
  | 93 => ⟨S_, .f32⟩
  | 94 => ⟨S4096x64, .f32⟩
  | 95 => ⟨S4096x64, .f32⟩
  | 96 => ⟨S4096x64, .f32⟩
  | 97 => ⟨S4096x64, .f32⟩
  | 98 => ⟨S_, .f32⟩
  | 99 => ⟨S4096x64, .f32⟩
  | 100 => ⟨S4096x64, .f32⟩
  | 101 => ⟨S_, .f32⟩
  | 102 => ⟨S4096x64, .f32⟩
  | 103 => ⟨S4096x64, .f32⟩
  | 104 => ⟨S4096x64, .f32⟩
  | 105 => ⟨S4096x64, .f32⟩
  | 106 => ⟨S_, .f32⟩
  | 107 => ⟨S_, .f32⟩
  | 108 => ⟨S_, .f32⟩
  | 109 => ⟨S4096x64, .f32⟩
  | 110 => ⟨S_, .f32⟩
  | 111 => ⟨S_, .i1⟩
  | 112 => ⟨S_, .i1⟩
  | 113 => ⟨S_, .i32⟩
  | 114 => ⟨S_, .i32⟩
  | 115 => ⟨S4096x64, .f32⟩
  | 116 => ⟨S4096x64, .f32⟩
  | 117 => ⟨S4096x64, .f32⟩
  | 118 => ⟨S4096x64, .f32⟩
  | 119 => ⟨S4096x64, .f32⟩
  | 120 => ⟨S_, .f32⟩
  | 121 => ⟨S4096x64, .f32⟩
  | 122 => ⟨S4096x64, .f32⟩
  | 123 => ⟨S4096x64, .f32⟩
  | 124 => ⟨S4096x64, .f32⟩
  | 125 => ⟨S_, .f32⟩
  | 126 => ⟨S4096x64, .f32⟩
  | 127 => ⟨S4096x64, .f32⟩
  | _ => ⟨S4096x512, .i32⟩

abbrev hbmTy0_1 (i : Nat) : BufTy := match i % 128 with
  | 0 => ⟨S4096x64, .f32⟩
  | 1 => ⟨S4096x64, .f32⟩
  | 2 => ⟨S_, .f32⟩
  | 3 => ⟨S4096x64, .f32⟩
  | 4 => ⟨S4096x64, .f32⟩
  | 5 => ⟨S_, .f32⟩
  | 6 => ⟨S4096x64, .f32⟩
  | 7 => ⟨S4096x64, .f32⟩
  | 8 => ⟨S_, .f32⟩
  | 9 => ⟨S4096x64, .f32⟩
  | 10 => ⟨S4096x64, .f32⟩
  | _ => ⟨S4096x512, .i32⟩

abbrev hbmTy (i : Nat) : BufTy := match i / 128 with
  | 0 => hbmTy0_0 i
  | 1 => hbmTy0_1 i
  | _ => ⟨S4096x512, .i32⟩

abbrev bufTy : (tb : Table) → Fin (tcTables nBuf tb) → BufTy
  | .hbm, ⟨i, _⟩ => hbmTy i
  | _, _ => ⟨S4096x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_1 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_3 : Ref sig .tc := ⟨.hbm, 45, rfl⟩
abbrev main_v35_0 : Ref sig .tc := ⟨.hbm, 46, rfl⟩
abbrev main_v35_1 : Ref sig .tc := ⟨.hbm, 47, rfl⟩
abbrev main_v35_2 : Ref sig .tc := ⟨.hbm, 48, rfl⟩
abbrev main_while0c_c_15 : Ref sig .tc := ⟨.hbm, 49, rfl⟩
abbrev main_while0c_v63 : Ref sig .tc := ⟨.hbm, 50, rfl⟩
abbrev main_while0b_v63 : Ref sig .tc := ⟨.hbm, 51, rfl⟩
abbrev main_while0b_v64 : Ref sig .tc := ⟨.hbm, 52, rfl⟩
abbrev main_while0b_cst_15 : Ref sig .tc := ⟨.hbm, 53, rfl⟩
abbrev main_while0b_v65 : Ref sig .tc := ⟨.hbm, 54, rfl⟩
abbrev main_while0b_v66 : Ref sig .tc := ⟨.hbm, 55, rfl⟩
abbrev main_while0b_v67 : Ref sig .tc := ⟨.hbm, 56, rfl⟩
abbrev main_while0b_v68 : Ref sig .tc := ⟨.hbm, 57, rfl⟩
abbrev main_while0b_c_16 : Ref sig .tc := ⟨.hbm, 58, rfl⟩
abbrev main_while0b_v69 : Ref sig .tc := ⟨.hbm, 59, rfl⟩
abbrev main_v36 : Ref sig .tc := ⟨.hbm, 60, rfl⟩
abbrev main_v37 : Ref sig .tc := ⟨.hbm, 61, rfl⟩
abbrev main_cst_4 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_cst_5 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_c_7 : Ref sig .tc := ⟨.hbm, 71, rfl⟩
abbrev main_c_8 : Ref sig .tc := ⟨.hbm, 72, rfl⟩
abbrev main_v44_0 : Ref sig .tc := ⟨.hbm, 73, rfl⟩
abbrev main_v44_1 : Ref sig .tc := ⟨.hbm, 74, rfl⟩
abbrev main_v44_2 : Ref sig .tc := ⟨.hbm, 75, rfl⟩
abbrev main_v44_3 : Ref sig .tc := ⟨.hbm, 76, rfl⟩
abbrev main_v44_4 : Ref sig .tc := ⟨.hbm, 77, rfl⟩
abbrev main_v44_5 : Ref sig .tc := ⟨.hbm, 78, rfl⟩
abbrev main_v44_6 : Ref sig .tc := ⟨.hbm, 79, rfl⟩
abbrev main_v44_7 : Ref sig .tc := ⟨.hbm, 80, rfl⟩
abbrev main_while1c_c_20 : Ref sig .tc := ⟨.hbm, 81, rfl⟩
abbrev main_while1c_v63 : Ref sig .tc := ⟨.hbm, 82, rfl⟩
abbrev main_while1b_v63 : Ref sig .tc := ⟨.hbm, 83, rfl⟩
abbrev main_while1b_v64 : Ref sig .tc := ⟨.hbm, 84, rfl⟩
abbrev main_while1b_v65 : Ref sig .tc := ⟨.hbm, 85, rfl⟩
abbrev main_while1b_v66 : Ref sig .tc := ⟨.hbm, 86, rfl⟩
abbrev main_while1b_v67 : Ref sig .tc := ⟨.hbm, 87, rfl⟩
abbrev main_while1b_cst_20 : Ref sig .tc := ⟨.hbm, 88, rfl⟩
abbrev main_while1b_v68 : Ref sig .tc := ⟨.hbm, 89, rfl⟩
abbrev main_while1b_v69 : Ref sig .tc := ⟨.hbm, 90, rfl⟩
abbrev main_while1b_v70 : Ref sig .tc := ⟨.hbm, 91, rfl⟩
abbrev main_while1b_v71 : Ref sig .tc := ⟨.hbm, 92, rfl⟩
abbrev main_while1b_cst_21 : Ref sig .tc := ⟨.hbm, 93, rfl⟩
abbrev main_while1b_v72 : Ref sig .tc := ⟨.hbm, 94, rfl⟩
abbrev main_while1b_v73 : Ref sig .tc := ⟨.hbm, 95, rfl⟩
abbrev main_while1b_v74 : Ref sig .tc := ⟨.hbm, 96, rfl⟩
abbrev main_while1b_v75 : Ref sig .tc := ⟨.hbm, 97, rfl⟩
abbrev main_while1b_cst_22 : Ref sig .tc := ⟨.hbm, 98, rfl⟩
abbrev main_while1b_v76 : Ref sig .tc := ⟨.hbm, 99, rfl⟩
abbrev main_while1b_v77 : Ref sig .tc := ⟨.hbm, 100, rfl⟩
abbrev main_while1b_call0_cst : Ref sig .tc := ⟨.hbm, 101, rfl⟩
abbrev main_while1b_call0_v0 : Ref sig .tc := ⟨.hbm, 102, rfl⟩
abbrev main_while1b_v78 : Ref sig .tc := ⟨.hbm, 103, rfl⟩
abbrev main_while1b_v79 : Ref sig .tc := ⟨.hbm, 104, rfl⟩
abbrev main_while1b_v80 : Ref sig .tc := ⟨.hbm, 105, rfl⟩
abbrev main_while1b_cst_23 : Ref sig .tc := ⟨.hbm, 106, rfl⟩
abbrev main_while1b_v81 : Ref sig .tc := ⟨.hbm, 107, rfl⟩
abbrev main_while1b_v82 : Ref sig .tc := ⟨.hbm, 108, rfl⟩
abbrev main_while1b_v83 : Ref sig .tc := ⟨.hbm, 109, rfl⟩
abbrev main_while1b_cst_24 : Ref sig .tc := ⟨.hbm, 110, rfl⟩
abbrev main_while1b_v84 : Ref sig .tc := ⟨.hbm, 111, rfl⟩
abbrev main_while1b_v85 : Ref sig .tc := ⟨.hbm, 112, rfl⟩
abbrev main_while1b_c_25 : Ref sig .tc := ⟨.hbm, 113, rfl⟩
abbrev main_while1b_v86 : Ref sig .tc := ⟨.hbm, 114, rfl⟩
abbrev main_v45 : Ref sig .tc := ⟨.hbm, 115, rfl⟩
abbrev main_v46 : Ref sig .tc := ⟨.hbm, 116, rfl⟩
abbrev main_v47 : Ref sig .tc := ⟨.hbm, 117, rfl⟩
abbrev main_v48 : Ref sig .tc := ⟨.hbm, 118, rfl⟩
abbrev main_v49 : Ref sig .tc := ⟨.hbm, 119, rfl⟩
abbrev main_cst_9 : Ref sig .tc := ⟨.hbm, 120, rfl⟩
abbrev main_v50 : Ref sig .tc := ⟨.hbm, 121, rfl⟩
abbrev main_v51 : Ref sig .tc := ⟨.hbm, 122, rfl⟩
abbrev main_v52 : Ref sig .tc := ⟨.hbm, 123, rfl⟩
abbrev main_v53 : Ref sig .tc := ⟨.hbm, 124, rfl⟩
abbrev main_cst_10 : Ref sig .tc := ⟨.hbm, 125, rfl⟩
abbrev main_v54 : Ref sig .tc := ⟨.hbm, 126, rfl⟩
abbrev main_v55 : Ref sig .tc := ⟨.hbm, 127, rfl⟩
abbrev main_v56 : Ref sig .tc := ⟨.hbm, 128, rfl⟩
abbrev main_v57 : Ref sig .tc := ⟨.hbm, 129, rfl⟩
abbrev main_cst_11 : Ref sig .tc := ⟨.hbm, 130, rfl⟩
abbrev main_v58 : Ref sig .tc := ⟨.hbm, 131, rfl⟩
abbrev main_v59 : Ref sig .tc := ⟨.hbm, 132, rfl⟩
abbrev main_call2_cst : Ref sig .tc := ⟨.hbm, 133, rfl⟩
abbrev main_call2_v0 : Ref sig .tc := ⟨.hbm, 134, rfl⟩
abbrev main_v60 : Ref sig .tc := ⟨.hbm, 135, rfl⟩
abbrev main_cst_12 : Ref sig .tc := ⟨.hbm, 136, rfl⟩
abbrev main_v61 : Ref sig .tc := ⟨.hbm, 137, rfl⟩
abbrev main_v62 : Ref sig .tc := ⟨.hbm, 138, rfl⟩

abbrev nD : Nat := 1
abbrev τ : Topo := Topo.v7x

variable {F : FTy → Type} [FloatOps F]

abbrev main_while0_count : Scf.Loop 32 := ⟨0#32, 32#32, 1#32⟩

abbrev main_while1_count : Scf.Loop 32 := ⟨0#32, 19#32, 1#32⟩
-- ==== Proof.KI.Body0.lean ====
module

public import proofs.«01_k».proof.Proof.Gen.KernelIdeal.Launch
public import proofs.«01_k».proof.Proof.Gen.KernelIdeal.Loops
public import Idealize.ShloMosaic.Lib.Tactic

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the whole proof: the pipeline library's own. -/
abbrev UU : Type := UR sig nD τ

local notation "𝕄" => MT nD τ sig Unit (Elt F) ℕ UU ℕ

/-- The contents of a buffer a memref names, on core `c`. -/
abbrev Bf (c : Dev nD) {sp : Space} {S : Shape} {e : EltTy} (M : Memref sig .tc sp S e) : Type := Buf (Elt F) (M.view.loc (c : Thread nD τ))
/-- A memref's buffer held whole at `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- The transposing kernel's run. -/
noncomputable def run0 (c : Dev nD) (i : grid0.Coords) (M1 : Memref sig .tc .vmem S512x4096 .f32) (h1 : M1.IsWhole) (M2 : Memref sig .tc .vmem S4096x512 .fp8e4m3) (h2 : M2.IsWhole)
    (f1 : Bf (F := F) c M1) (f2 : Bf (F := F) c M2) :
    { W : Bf (F := F) c M2 // ∀ (E : Set ℕ) (Q : PUnit → sProp 𝕄),
        iprop(pt c M1 f1 ∗ pt c M2 f2 ∗ (iprop(pt c M1 f1 ∗ pt c M2 W) -∗ Q ⟨⟩))
          ⊢ wp frame (wpE (defs₀ (F := F)) Variants.none c none) E (cc0_wlayer_lprep i M1 h1 M2 h2) Q } := by
  refine ⟨?_, fun E Q => ?run⟩
  case run =>
    iintro ⟨H0, H1, Hk⟩
    sl_exec!
    sl_step
    iapply Hk
    isplitl [H0]; · iexact H0
    iexact H1

end Cert.Proof.KI

end
-- ==== Proof.KI.Body1.lean ====
module

public import proofs.«01_k».proof.Proof.KI.Body0

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (M0 : Memref sig .tc .vmem S4096x512 .i32) (h0 : M0.IsWhole)
variable (M1 : Memref sig .tc .vmem S4096x512 .f32) (h1 : M1.IsWhole)
variable (M2 : Memref sig .tc .vmem S64x512 .f32) (h2 : M2.IsWhole)
variable (M3 : Memref sig .tc .vmem S64x512 .fp8e4m3) (h3 : M3.IsWhole)
variable (M4 : Memref sig .tc .vmem S512x64 .fp8e4m3) (h4 : M4.IsWhole)
variable (M5 : Memref sig .tc .vmem S512x4096 .bf16) (h5 : M5.IsWhole)
variable (M6 : Memref sig .tc .vmem S64x4096 .f32) (h6 : M6.IsWhole)
variable (M7 : Memref sig .tc .vmem S1x4096 .f32) (h7 : M7.IsWhole)

set_option maxHeartbeats 8000000 in
/-- The set-up kernel's run: the mask transposed, `V` transposed and the Rayleigh quotients after the power steps. -/
noncomputable def run1 (c : Dev nD) (f0 : Bf (F := F) c M0) (f1 : Bf (F := F) c M1) (f2 : Bf (F := F) c M2) (f3 : Bf (F := F) c M3) (f4 : Bf (F := F) c M4) :
    { O : Bf (F := F) c M5 × Bf (F := F) c M6 × Bf (F := F) c M7 //
        ∀ (f5 : Bf (F := F) c M5) (f6 : Bf (F := F) c M6) (f7 : Bf (F := F) c M7) (Q : PUnit → sProp 𝕄),
        iprop(pt c M0 f0 ∗ pt c M1 f1 ∗ pt c M2 f2 ∗ pt c M3 f3 ∗ pt c M4 f4 ∗ pt c M5 f5 ∗ pt c M6 f6 ∗ pt c M7 f7
          ∗ (iprop(pt c M0 f0 ∗ pt c M1 f1 ∗ pt c M2 f2 ∗ pt c M3 f3 ∗ pt c M4 f4 ∗ pt c M5 O.1 ∗ pt c M6 O.2.1 ∗ pt c M7 O.2.2) -∗ Q ⟨⟩))
          ⊢ wp frame (wpE (defs₀ (F := F)) Variants.none c none) Set.univ (cc1_wlayer_setup M0 h0 M1 h1 M2 h2 M3 h3 M4 h4 M5 h5 M6 h6 M7 h7) Q } := by
  refine ⟨(?_, ?_, ?_), fun f5 f6 f7 Q => ?run⟩
  case run =>
    iintro ⟨H0, H1, H2, H3, H4, H5, H6, H7, Hk⟩
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7

end Cert.Proof.KI

end
-- ==== Proof.KI.Body2.lean ====
module

public import proofs.«01_k».proof.Proof.KI.Body0

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (M0 : Memref sig .tc .vmem S4096x4096 .fp8e4m3) (h0 : M0.IsWhole)
variable (M1 : Memref sig .tc .vmem S512x4096 .bf16) (h1 : M1.IsWhole)
variable (M2 : Memref sig .tc .vmem S64x512 .f32) (h2 : M2.IsWhole)
variable (M3 : Memref sig .tc .vmem S64x512 .bf16) (h3 : M3.IsWhole)
variable (M4 : Memref sig .tc .vmem S512x64 .bf16) (h4 : M4.IsWhole)
variable (M5 : Memref sig .tc .vmem S64x4096 .f32) (h5 : M5.IsWhole)
variable (M6 : Memref sig .tc .vmem S1x4096 .f32) (h6 : M6.IsWhole)
variable (M7 : Memref sig .tc .vmem S64x4096 .f32) (h7 : M7.IsWhole)
variable (M8 : Memref sig .tc .vmem S64x4096 .f32) (h8 : M8.IsWhole)
variable (M9 : Memref sig .tc .vmem S64x4096 .f32) (h9 : M9.IsWhole)
variable (M10 : Memref sig .tc .vmem S64x4096 .f32) (h10 : M10.IsWhole)

section Trip

variable (v5 : Vec F S1x4096 .f32) (v9 : Vec F S64x4096 .f32) (v11 : Vec F S64x512 .bf16) (v13 : Vec F S512x64 .bf16)
variable (c : Dev nD) (f0 : Bf (F := F) c M0) (f1 : Bf (F := F) c M1)

set_option maxHeartbeats 8000000 in
/-- One trip of the main loop that has not yet met the tolerance: the next iterate goes to `wn_scr`, is copied to
`w_scr`, and the flag is raised when the mean square of the change is at most the tolerance. -/
noncomputable def trip0 (W : Bf (F := F) c M9) :
    { R : Bf (F := F) c M9 × BitVec 1 // ∀ (k : Fin k2_t1_loop.trips) (G : Bf (F := F) c M10),
        iprop(pt c M0 f0 ∗ pt c M1 f1 ∗ pt c M9 W ∗ pt c M10 G)
          ⊢ wp frame (wpE (defs₀ (F := F)) Variants.none c none) Set.univ
            (k2_t1_body (F := F) M0 h0 M1 h1 M2 h2 M3 h3 M4 h4 M5 h5 M6 h6 M7 h7 M8 h8 M9 h9 M10 h10 v5 v9 v11 v13 k 0#1)
            (fun acc => iprop(pt c M0 f0 ∗ pt c M1 f1 ∗ pt c M9 R.1 ∗ (∃ G', pt c M10 G') ∗ ⌜acc = R.2⌝)) } := by
  refine ⟨(?_, ?_), fun k G => ?run⟩
  case run =>
    unfold k2_t1_body
    iintro ⟨H0, H1, H9, H10⟩
    sl_exec!
    sl_step
    isplitl [H0]; · iexact H0
    isplitl [H1]; · iexact H1
    isplitl [H9]; · iexact H9
    isplitl [H10]; · iexists _; iexact H10
    ipureintro; rfl

/-- A raised flag stays raised. -/
theorem ori_one (x : BitVec 1) : Scalar.ori 1#1 x = 1#1 := by
  revert x; decide

set_option maxHeartbeats 8000000 in
/-- One trip of the main loop after the tolerance was met: the iterate and the flag stay. -/
theorem trip1 (k : Fin k2_t1_loop.trips) (W : Bf (F := F) c M9) (G : Bf (F := F) c M10) :
    iprop(pt c M0 f0 ∗ pt c M1 f1 ∗ pt c M9 W ∗ pt c M10 G)
      ⊢ wp frame (wpE (defs₀ (F := F)) Variants.none c none) Set.univ
        (k2_t1_body (F := F) M0 h0 M1 h1 M2 h2 M3 h3 M4 h4 M5 h5 M6 h6 M7 h7 M8 h8 M9 h9 M10 h10 v5 v9 v11 v13 k 1#1)
        (fun acc => iprop(pt c M0 f0 ∗ pt c M1 f1 ∗ pt c M9 W ∗ (∃ G', pt c M10 G') ∗ ⌜acc = 1#1⌝)) := by
  unfold k2_t1_body
  iintro ⟨H0, H1, H9, H10⟩
  sl_exec!
  sl_step
  isplitl [H0]; · iexact H0
  isplitl [H1]; · iexact H1
  isplitl [H9]; · iexact H9
  isplitl [H10]; · iexists _; iexact H10
  ipureintro; exact ori_one _

/-- The iterate and the flag after a trip. -/
@[irreducible] def nxt (R : Bf (F := F) c M9 × BitVec 1) : Bf (F := F) c M9 × BitVec 1 :=
  if R.2 = 0#1 then (trip0 M0 h0 M1 h1 M2 h2 M3 h3 M4 h4 M5 h5 M6 h6 M7 h7 M8 h8 M9 h9 M10 h10 v5 v9 v11 v13 c f0 f1 R.1).1 else R

/-- A trip with a lowered flag. -/
theorem nxt_lo {R : Bf (F := F) c M9 × BitVec 1} (h : R.2 = 0#1) :
    nxt M0 h0 M1 h1 M2 h2 M3 h3 M4 h4 M5 h5 M6 h6 M7 h7 M8 h8 M9 h9 M10 h10 v5 v9 v11 v13 c f0 f1 R = (trip0 M0 h0 M1 h1 M2 h2 M3 h3 M4 h4 M5 h5 M6 h6 M7 h7 M8 h8 M9 h9 M10 h10 v5 v9 v11 v13 c f0 f1 R.1).1 := by
  unfold nxt; exact if_pos h

/-- A trip with a raised flag. -/
theorem nxt_hi {R : Bf (F := F) c M9 × BitVec 1} (h : R.2 = 1#1) : nxt M0 h0 M1 h1 M2 h2 M3 h3 M4 h4 M5 h5 M6 h6 M7 h7 M8 h8 M9 h9 M10 h10 v5 v9 v11 v13 c f0 f1 R = R := by
  unfold nxt; exact if_neg (by rw [h]; decide)

/-- The iterate and the flag before trip `n`, from the iterate `W0` and a lowered flag. -/
@[irreducible] def st (W0 : Bf (F := F) c M9) (n : ℕ) : Bf (F := F) c M9 × BitVec 1 :=
  (nxt M0 h0 M1 h1 M2 h2 M3 h3 M4 h4 M5 h5 M6 h6 M7 h7 M8 h8 M9 h9 M10 h10 v5 v9 v11 v13 c f0 f1)^[n] (W0, 0#1)

/-- Before the first trip. -/
theorem st_zero (W0 : Bf (F := F) c M9) : st M0 h0 M1 h1 M2 h2 M3 h3 M4 h4 M5 h5 M6 h6 M7 h7 M8 h8 M9 h9 M10 h10 v5 v9 v11 v13 c f0 f1 W0 0 = (W0, 0#1) := by
  unfold st; rfl

/-- Before the next trip. -/
theorem st_succ (W0 : Bf (F := F) c M9) (n : ℕ) : st M0 h0 M1 h1 M2 h2 M3 h3 M4 h4 M5 h5 M6 h6 M7 h7 M8 h8 M9 h9 M10 h10 v5 v9 v11 v13 c f0 f1 W0 (n + 1)
    = nxt M0 h0 M1 h1 M2 h2 M3 h3 M4 h4 M5 h5 M6 h6 M7 h7 M8 h8 M9 h9 M10 h10 v5 v9 v11 v13 c f0 f1 (st M0 h0 M1 h1 M2 h2 M3 h3 M4 h4 M5 h5 M6 h6 M7 h7 M8 h8 M9 h9 M10 h10 v5 v9 v11 v13 c f0 f1 W0 n) := by
  unfold st; exact Function.iterate_succ_apply' ..

/-- The post-condition of a trip, with the contents of `w_scr` under an existential. -/
theorem post_ex {P Q X : sProp 𝕄} (W : Bf (F := F) c M9) :
    iprop(P ∗ Q ∗ pt c M9 W ∗ X) ⊢ iprop(P ∗ Q ∗ (∃ W', pt c M9 W' ∗ ⌜W' = W⌝) ∗ X) := by
  iintro ⟨H0, H1, H9, H10⟩
  isplitl [H0]; · iexact H0
  isplitl [H1]; · iexact H1
  isplitl [H9]
  · iexists W
    isplitl [H9]; · iexact H9
    ipureintro; trivial
  iexact H10

/-- The main loop's invariant. -/
abbrev inv2 (W0 : Bf (F := F) c M9) (n : ℕ) (acc : BitVec 1) : sProp 𝕄 :=
  iprop(pt c M0 f0 ∗ pt c M1 f1 ∗ (∃ W', pt c M9 W' ∗ ⌜W' = (st M0 h0 M1 h1 M2 h2 M3 h3 M4 h4 M5 h5 M6 h6 M7 h7 M8 h8 M9 h9 M10 h10 v5 v9 v11 v13 c f0 f1 W0 n).1⌝) ∗ (∃ G', pt c M10 G')
    ∗ ⌜acc = (st M0 h0 M1 h1 M2 h2 M3 h3 M4 h4 M5 h5 M6 h6 M7 h7 M8 h8 M9 h9 M10 h10 v5 v9 v11 v13 c f0 f1 W0 n).2⌝)

/-- A trip keeps the main loop's invariant. -/
theorem step2 (W0 : Bf (F := F) c M9) (k : Fin k2_t1_loop.trips) (acc : BitVec 1) :
    inv2 M0 h0 M1 h1 M2 h2 M3 h3 M4 h4 M5 h5 M6 h6 M7 h7 M8 h8 M9 h9 M10 h10 v5 v9 v11 v13 c f0 f1 W0 k.val acc
      ⊢ wp frame (wpE (defs₀ (F := F)) Variants.none c none) Set.univ
        (k2_t1_body (F := F) M0 h0 M1 h1 M2 h2 M3 h3 M4 h4 M5 h5 M6 h6 M7 h7 M8 h8 M9 h9 M10 h10 v5 v9 v11 v13 k acc) (inv2 M0 h0 M1 h1 M2 h2 M3 h3 M4 h4 M5 h5 M6 h6 M7 h7 M8 h8 M9 h9 M10 h10 v5 v9 v11 v13 c f0 f1 W0 (k.val + 1)) := by
  unfold inv2
  iintro ⟨H0, H1, ⟨%W, H9, %hW⟩, ⟨%G, H10⟩, %hacc⟩
  subst hW
  rcases (show ∀ b : BitVec 1, b = 0#1 ∨ b = 1#1 by decide) (st M0 h0 M1 h1 M2 h2 M3 h3 M4 h4 M5 h5 M6 h6 M7 h7 M8 h8 M9 h9 M10 h10 v5 v9 v11 v13 c f0 f1 W0 k.val).2 with h | h
  · have hs : st M0 h0 M1 h1 M2 h2 M3 h3 M4 h4 M5 h5 M6 h6 M7 h7 M8 h8 M9 h9 M10 h10 v5 v9 v11 v13 c f0 f1 W0 (k.val + 1)
        = (trip0 M0 h0 M1 h1 M2 h2 M3 h3 M4 h4 M5 h5 M6 h6 M7 h7 M8 h8 M9 h9 M10 h10 v5 v9 v11 v13 c f0 f1 (st M0 h0 M1 h1 M2 h2 M3 h3 M4 h4 M5 h5 M6 h6 M7 h7 M8 h8 M9 h9 M10 h10 v5 v9 v11 v13 c f0 f1 W0 k.val).1).1 := (st_succ ..).trans (nxt_lo _ _ _ _ _ _ _ _ _ _ _ _ _ _ _ _ _ _ _ _ _ _ _ _ _ _ _ _ _ h)
    rw [hs]
    obtain rfl : acc = 0#1 := hacc.trans h
    iapply ((trip0 M0 h0 M1 h1 M2 h2 M3 h3 M4 h4 M5 h5 M6 h6 M7 h7 M8 h8 M9 h9 M10 h10 v5 v9 v11 v13 c f0 f1 (st M0 h0 M1 h1 M2 h2 M3 h3 M4 h4 M5 h5 M6 h6 M7 h7 M8 h8 M9 h9 M10 h10 v5 v9 v11 v13 c f0 f1 W0 k.val).1).2 k G).trans (wp_mono _ _ _ fun _ => post_ex M9 c _)
    isplitl [H0]; · iexact H0
    isplitl [H1]; · iexact H1
    isplitl [H9]; · iexact H9
    iexact H10
  · have hs : st M0 h0 M1 h1 M2 h2 M3 h3 M4 h4 M5 h5 M6 h6 M7 h7 M8 h8 M9 h9 M10 h10 v5 v9 v11 v13 c f0 f1 W0 (k.val + 1) = st M0 h0 M1 h1 M2 h2 M3 h3 M4 h4 M5 h5 M6 h6 M7 h7 M8 h8 M9 h9 M10 h10 v5 v9 v11 v13 c f0 f1 W0 k.val :=
      (st_succ ..).trans (nxt_hi _ _ _ _ _ _ _ _ _ _ _ _ _ _ _ _ _ _ _ _ _ _ _ _ _ _ _ _ _ h)
    rw [hs, h]
    obtain rfl : acc = 1#1 := hacc.trans h
    iapply (trip1 M0 h0 M1 h1 M2 h2 M3 h3 M4 h4 M5 h5 M6 h6 M7 h7 M8 h8 M9 h9 M10 h10 v5 v9 v11 v13 c f0 f1 k (st M0 h0 M1 h1 M2 h2 M3 h3 M4 h4 M5 h5 M6 h6 M7 h7 M8 h8 M9 h9 M10 h10 v5 v9 v11 v13 c f0 f1 W0 k.val).1 G).trans (wp_mono _ _ _ fun _ => post_ex M9 c _)
    isplitl [H0]; · iexact H0
    isplitl [H1]; · iexact H1
    isplitl [H9]; · iexact H9
    iexact H10

end Trip

/-- The whole of `lam`. -/
abbrev ld6 (c : Dev nD) (f6 : Bf (F := F) c M6) : Vec F S1x4096 .f32 :=
  View.readAt (Elt F) M6.view (Rect.unit ![0, 0] S1x4096.size inb_S1x4096_S1x4096_0_0).toLoadRect f6
/-- The whole of `V`. -/
abbrev ld5 (c : Dev nD) (f5 : Bf (F := F) c M5) : Vec F S64x4096 .f32 :=
  View.readAt (Elt F) M5.view (Rect.unit ![0, 0] S64x4096.size inb_S64x4096_S64x4096_0_0).toLoadRect f5
/-- The whole of `H`. -/
abbrev ld3 (c : Dev nD) (f3 : Bf (F := F) c M3) : Vec F S64x512 .bf16 :=
  View.readAt (Elt F) M3.view (Rect.unit ![0, 0] S64x512.size inb_S64x512_S64x512_0_0).toLoadRect f3
/-- The whole of `H` transposed. -/
abbrev ld4 (c : Dev nD) (f4 : Bf (F := F) c M4) : Vec F S512x64 .bf16 :=
  View.readAt (Elt F) M4.view (Rect.unit ![0, 0] S512x64.size inb_S512x64_S512x64_0_0).toLoadRect f4
/-- The first iterate: `W_pre`, stored whole. -/
abbrev w0 (c : Dev nD) (f7 : Bf (F := F) c M7) : Bf (F := F) c M9 :=
  M9.view.writes (Elt F) M9.view.junk [⟨Rect.unit ![0, 0] S64x4096.size inb_S64x4096_S64x4096_0_0,
    k2_pay21 (View.readAt (Elt F) M7.view (Rect.unit ![0, 0] S64x4096.size inb_S64x4096_S64x4096_0_0).toLoadRect f7)⟩]

set_option maxHeartbeats 8000000 in
/-- The main kernel's run. -/
noncomputable def run2 (c : Dev nD) (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) :
    { O : Bf (F := F) c M8 // ∀ (f8 : Bf (F := F) c M8) (f9 : Bf (F := F) c M9) (f10 : Bf (F := F) c M10) (Q : PUnit → sProp 𝕄),
        iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9 ∗ pt c M10 f10
          ∗ (iprop(pt c M0 f0 ∗ pt c M1 f1 ∗ pt c M2 f2 ∗ pt c M3 f3 ∗ pt c M4 f4 ∗ pt c M5 f5 ∗ pt c M6 f6 ∗ pt c M7 f7 ∗ pt c M8 O ∗ (∃ G, pt c M9 G) ∗ (∃ G, pt c M10 G)) -∗ Q ⟨⟩))
          ⊢ wp frame (wpE (defs₀ (F := F)) Variants.none c none) Set.univ (cc2_wlayer_main M0 h0 M1 h1 M2 h2 M3 h3 M4 h4 M5 h5 M6 h6 M7 h7 M8 h8 M9 h9 M10 h10) Q } := by
  refine ⟨?_, fun f8 f9 f10 Q => ?run⟩
  case run =>
    iintro ⟨H0, H1, H2, H3, H4, H5, H6, H7, H8, H9, H10, Hk⟩
    sl_exec!
    iapply (Scf.wp_for_bind frame (wpE (defs₀ (F := F)) Variants.none c none) Set.univ k2_t1_loop.lb k2_t1_loop.ub k2_t1_loop.st k2_t1_ok
      _ _ (inv2 M0 h0 M1 h1 M2 h2 M3 h3 M4 h4 M5 h5 M6 h6 M7 h7 M8 h8 M9 h9 M10 h10 (ld6 M6 c f6) (ld5 M5 c f5) (ld3 M3 c f3) (ld4 M4 c f4) c f0 f1 (w0 M7 M9 c f7))
      (step2 M0 h0 M1 h1 M2 h2 M3 h3 M4 h4 M5 h5 M6 h6 M7 h7 M8 h8 M9 h9 M10 h10 (ld6 M6 c f6) (ld5 M5 c f5) (ld3 M3 c f3) (ld4 M4 c f4) c f0 f1 (w0 M7 M9 c f7))) $$ [H0 H1 H9 H10]
    · isplitl [H0]; · iexact H0
      isplitl [H1]; · iexact H1
      isplitl [H9]
      · iexists (w0 M7 M9 c f7)
        isplitl [H9]; · iexact H9
        ipureintro; rw [st_zero]
      isplitl [H10]; · iexists _; iexact H10
      ipureintro; rw [st_zero]
    iintro %acc ⟨H0, H1, ⟨%W', H9, %hW⟩, ⟨%G, H10⟩, -⟩
    subst hW
    sl_exec!
    sl_step
    iapply Hk
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10

end Cert.Proof.KI

end
-- ==== Proof.KI.Region0.lean ====
module

public import proofs.«01_k».proof.Proof.KI.Body0
public import proofs.«01_k».proof.Proof.KI.Body1
public import proofs.«01_k».proof.Proof.KI.Body2
public import proofs.«01_k».proof.Proof.Gen.KernelIdeal.Regions
public import Idealize.ShloMosaic.Lib.Pipeline.RegionArraysS
public import Idealize.ShloMosaic.Lib.Pipeline.FrameBody
public import Idealize.ShloMosaic.Lib.Ring

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)

local notation "𝕄" => MT nD τ sig Unit (Elt F) ℕ UU ℕ

/-- A whole memref owned at `X` is its buffer held at some contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  obtain ⟨b, hsp, hsh, he, h⟩ := h
  subst hsp hsh he
  cases h
  show (owns (c : Thread nD τ) (Memref.whole b) fullShare X : sProp 𝕄) = _
  simp only [owns_whole_eq]
  rfl

/-- One tile of the transposing kernel's block: columns `o …` of the block, transposed, scaled and narrowed. -/
def tile (X : Vec F S512x4096 .f32) (o : ℕ) (h : ∀ a, (![0, o] : Fin 2 → ℕ) a + S512x512.size a ≤ S512x4096.size a) : FVec F S512x512 .fp8e4m3 :=
  k0_pay4 (View.ld (Val := Elt F) X (Rect.unit (s := S512x4096) ![0, o] S512x512.size h))

/-- The pieces the transposing kernel stores, last first. -/
def pieces0 (X : Vec F S512x4096 .f32) : List (View.Piece (Elt F) S4096x512 .fp8e4m3) :=
  [⟨Rect.unit (s := S4096x512) ![3584, 0] S512x512.size inb_S4096x512_S512x512_3584_0, tile X 3584 inb_S512x4096_S512x512_0_3584⟩,
   ⟨Rect.unit (s := S4096x512) ![3072, 0] S512x512.size inb_S4096x512_S512x512_3072_0, tile X 3072 inb_S512x4096_S512x512_0_3072⟩,
   ⟨Rect.unit (s := S4096x512) ![2560, 0] S512x512.size inb_S4096x512_S512x512_2560_0, tile X 2560 inb_S512x4096_S512x512_0_2560⟩,
   ⟨Rect.unit (s := S4096x512) ![2048, 0] S512x512.size inb_S4096x512_S512x512_2048_0, tile X 2048 inb_S512x4096_S512x512_0_2048⟩,
   ⟨Rect.unit (s := S4096x512) ![1536, 0] S512x512.size inb_S4096x512_S512x512_1536_0, tile X 1536 inb_S512x4096_S512x512_0_1536⟩,
   ⟨Rect.unit (s := S4096x512) ![1024, 0] S512x512.size inb_S4096x512_S512x512_1024_0, tile X 1024 inb_S512x4096_S512x512_0_1024⟩,
   ⟨Rect.unit (s := S4096x512) ![512, 0] S512x512.size inb_S4096x512_S512x512_512_0, tile X 512 inb_S512x4096_S512x512_0_512⟩,
   ⟨Rect.unit (s := S4096x512) ![0, 0] S512x512.size inb_S4096x512_S512x512_0_0, tile X 0 inb_S512x4096_S512x512_0_0⟩]

/-- What the transposing kernel leaves of a block. -/
@[irreducible] def k0V (X : Vec F S512x4096 .f32) : Vec F S4096x512 .fp8e4m3 := View.canon (pieces0 X)

/-- The pieces tile the block. -/
theorem cover0 (X : Vec F S512x4096 .f32) : ∀ y : S4096x512.Idx, ∃ p ∈ pieces0 X, y ∈ p.1.set :=
  View.cover_of_tiledL (pieces0 X) S512x512.size (by rfl)

/-- The tiles' payloads are one function. -/
theorem pay_same (v : Vec F S512x512 .f32) : k0_pay3 v = k0_pay4 v ∧ k0_pay2 v = k0_pay4 v ∧ k0_pay1 v = k0_pay4 v
    ∧ k0_pay7 v = k0_pay4 v ∧ k0_pay6 v = k0_pay4 v ∧ k0_pay5 v = k0_pay4 v :=
  ⟨rfl, rfl, rfl, rfl, rfl, rfl⟩

/-- The pieces of the run are the block's. -/
theorem H1_8_eq (c : Dev nD) (M1 : Memref sig .tc .vmem S512x4096 .f32) (f1 : Bf (F := F) c M1) :
    run0.sl.H1_8 c M1 f1 = pieces0 (M1.view.read (Elt F) f1) := by
  have er : run0.sl.r c M1 f1 = tile (M1.view.read (Elt F) f1) 2048 inb_S512x4096_S512x512_0_2048 := rfl
  unfold run0.sl.H1_8 pieces0
  rw [er]
  simp only [(pay_same _).1, (pay_same _).2.1, (pay_same _).2.2.1, (pay_same _).2.2.2.1, (pay_same _).2.2.2.2.1, (pay_same _).2.2.2.2.2]
  rfl

/-- The run's result, read through its memref, is the block's `k0V`. -/
theorem read_run0 (c : Dev nD) (i : grid0.Coords) (M1 : Memref sig .tc .vmem S512x4096 .f32) (h1 : M1.IsWhole) (M2 : Memref sig .tc .vmem S4096x512 .fp8e4m3) (h2 : M2.IsWhole)
    (f1 : Bf (F := F) c M1) (f2 : Bf (F := F) c M2) :
    M2.view.read (Elt F) (run0 c i M1 h1 M2 h2 f1 f2).1 = k0V (M1.view.read (Elt F) f1) := by
  have e : (run0 c i M1 h1 M2 h2 f1 f2).1 = M2.view.writes (Elt F) M2.view.junk (pieces0 (M1.view.read (Elt F) f1)) := by
    rw [← H1_8_eq]
    rfl
  rw [e]
  unfold k0V
  exact View.read_writes_eq_canon M2.view _ _ (cover0 _)

variable (V : Dev nD → Valuation τ sig (Elt F))

/-- The block the transposing kernel reads at a grid point. -/
abbrev stg0 (c : Dev nD) (t : Fin cfg0.N) : (cfg0.win 0).block.Idx → Elt F (cfg0.win 0).elt :=
  ((cfg0.win 0).blk t).view.read (Elt F) (V c (Proc.devRef .tc main_arg3))

/-- The proof data of the transposing kernel, entered at `V`. -/
def dat0 (c : Dev nD) : Dat τ (Elt F) Unit ℕ UU ℕ cfg0 c where
  A w := V c (Proc.devRef .tc (Pipeline.arrRef spec0 w))
  after w t := match w with
    | ⟨0, _⟩ => stg0 V c t
    | ⟨1, _⟩ => k0V (stg0 V c t)
  Φ _ := Pipeline.scopedRest (Ix := Unit) (Name := ℕ) (U := UU) (Lvl := ℕ) (Val := Elt F) spec0 c
  q _ := fullShare
  owed _ := 0

/-- The input window's buffer holds its block when the body runs. -/
theorem before0 (c : Dev nD) (t : Fin cfg0.N) (d : (cfg0.win 0).block.Idx → Elt F (cfg0.win 0).elt) : (dat0 V c).before 0 t d = stg0 V c t := by
  have hf : (cfg0.win 0).fetch t = true := by
    rcases fin_N0 t with rfl | rfl | rfl | rfl | rfl | rfl | rfl | rfl <;> decide
  unfold Dat.before; rw [if_pos hf]; rfl

/-- The output window's block after the body. -/
theorem after0_1 (c : Dev nD) (t : Fin cfg0.N) : (dat0 V c).after 1 t = k0V (stg0 V c t) := by
  dsimp only [dat0]

/-- The transposing kernel's body meets the library's obligation at every grid point. -/
theorem body0 (c : Dev nD) : BodyObligation (dat0 V c) (defs₀ (F := F)) Variants.none () Set.univ := fun t => by
  rewrite [bigSep_W0, bigSep_W0]
  rewrite [show (dat0 V c).Φ t.castSucc = (dat0 V c).Φ t.succ from rfl,
    show (dat0 V c).owesAt () t.succ = (dat0 V c).owesAt () t.castSucc from rfl]
  rewrite [show (dat0 V c).after 0 t = stg0 V c t from rfl, after0_1]
  iintro ⟨HΦ, Howes, ⟨%d0, H0⟩, ⟨%d1, H1⟩⟩
  rewrite [before0]
  ihave H0' := (Entails.of_eq (owns_pt c (win0_0.stage (cfg0.slots t 0)) (hstage0_0 ((cfg0.slots t 0).cast nbuf0_0)) (stg0 V c t))) $$ H0
  ihave H1' := (Entails.of_eq (owns_pt c (win0_1.stage (cfg0.slots t 1)) (hstage0_1 ((cfg0.slots t 1).cast nbuf0_1)) ((dat0 V c).before 1 t d1))) $$ H1
  icases H0' with ⟨%f0, %hf0, H0⟩
  icases H1' with ⟨%f1, -, H1⟩
  have hr := read_run0 c (grid0.coords t) (win0_0.stage (cfg0.slots t 0)) (hstage0_0 ((cfg0.slots t 0).cast nbuf0_0)) (win0_1.stage (cfg0.slots t 1)) (hstage0_1 ((cfg0.slots t 1).cast nbuf0_1)) f0 f1
  rw [hf0] at hr
  iapply ((run0 c (grid0.coords t) (win0_0.stage (cfg0.slots t 0)) (hstage0_0 ((cfg0.slots t 0).cast nbuf0_0)) (win0_1.stage (cfg0.slots t 1)) (hstage0_1 ((cfg0.slots t 1).cast nbuf0_1)) f0 f1).2 Set.univ _)
  isplitl [H0]; · iexact H0
  isplitl [H1]; · iexact H1
  iintro ⟨H0, H1⟩
  isplitl [HΦ]; · iexact HΦ
  isplitl [Howes]; · iexact Howes
  isplitl [H0]
  · iapply (Entails.of_eq (owns_pt c (win0_0.stage (cfg0.slots t 0)) (hstage0_0 ((cfg0.slots t 0).cast nbuf0_0)) (stg0 V c t)).symm)
    iexists f0
    isplitr; swap; (· iexact H0)
    ipureintro; exact hf0
  iapply (Entails.of_eq (owns_pt c (win0_1.stage (cfg0.slots t 1)) (hstage0_1 ((cfg0.slots t 1).cast nbuf0_1)) (k0V (stg0 V c t))).symm)
  iexists _
  isplitr; swap; (· iexact H1)
  ipureintro; exact hr

end Cert.Proof.KI

end
-- ==== Proof.KI.Region1.lean ====
module

public import proofs.«01_k».proof.Proof.KI.Body0
public import proofs.«01_k».proof.Proof.KI.Body1
public import proofs.«01_k».proof.Proof.KI.Body2
public import proofs.«01_k».proof.Proof.Gen.KernelIdeal.Regions
public import Idealize.ShloMosaic.Lib.Pipeline.RegionArraysS
public import Idealize.ShloMosaic.Lib.Pipeline.FrameBody
public import Idealize.ShloMosaic.Lib.Ring

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)

local notation "𝕄" => MT nD τ sig Unit (Elt F) ℕ UU ℕ

variable (V : Dev nD → Valuation τ sig (Elt F))

/-- Window 0's block as fetched. -/
abbrev stg1_0 (c : Dev nD) : (cfg1.win 0).block.Idx → Elt F (cfg1.win 0).elt :=
  ((cfg1.win 0).blk t1_0).view.read (Elt F) (V c (Proc.devRef .tc main_arg0))

/-- Window 1's block as fetched. -/
abbrev stg1_1 (c : Dev nD) : (cfg1.win 1).block.Idx → Elt F (cfg1.win 1).elt :=
  ((cfg1.win 1).blk t1_0).view.read (Elt F) (V c (Proc.devRef .tc main_arg4))

/-- Window 2's block as fetched. -/
abbrev stg1_2 (c : Dev nD) : (cfg1.win 2).block.Idx → Elt F (cfg1.win 2).elt :=
  ((cfg1.win 2).blk t1_0).view.read (Elt F) (V c (Proc.devRef .tc main_arg2))

/-- Window 3's block as fetched. -/
abbrev stg1_3 (c : Dev nD) : (cfg1.win 3).block.Idx → Elt F (cfg1.win 3).elt :=
  ((cfg1.win 3).blk t1_0).view.read (Elt F) (V c (Proc.devRef .tc main_v3))

/-- Window 4's block as fetched. -/
abbrev stg1_4 (c : Dev nD) : (cfg1.win 4).block.Idx → Elt F (cfg1.win 4).elt :=
  ((cfg1.win 4).blk t1_0).view.read (Elt F) (V c (Proc.devRef .tc main_v4))

/-- The run at the fetched blocks. -/
abbrev K1 (c : Dev nD) := run1 (F := F) (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0) c (stg1_0 V c) (stg1_1 V c) (stg1_2 V c) (stg1_3 V c) (stg1_4 V c)

/-- What the set-up kernel leaves in output window 5. -/
@[irreducible] def out1_5 (c : Dev nD) : (cfg1.win 5).block.Idx → Elt F (cfg1.win 5).elt := (K1 V c).1.1

/-- What the set-up kernel leaves in output window 6. -/
@[irreducible] def out1_6 (c : Dev nD) : (cfg1.win 6).block.Idx → Elt F (cfg1.win 6).elt := (K1 V c).1.2.1

/-- What the set-up kernel leaves in output window 7. -/
@[irreducible] def out1_7 (c : Dev nD) : (cfg1.win 7).block.Idx → Elt F (cfg1.win 7).elt := (K1 V c).1.2.2

/-- The proof data of the set-up kernel, entered at `V`. -/
def dat1 (c : Dev nD) : Dat τ (Elt F) Unit ℕ UU ℕ cfg1 c where
  A w := V c (Proc.devRef .tc (Pipeline.arrRef spec1 w))
  after w _ := match w with
    | ⟨0, _⟩ => stg1_0 V c
    | ⟨1, _⟩ => stg1_1 V c
    | ⟨2, _⟩ => stg1_2 V c
    | ⟨3, _⟩ => stg1_3 V c
    | ⟨4, _⟩ => stg1_4 V c
    | ⟨5, _⟩ => out1_5 V c
    | ⟨6, _⟩ => out1_6 V c
    | ⟨7, _⟩ => out1_7 V c
  Φ _ := Pipeline.scopedRest (Ix := Unit) (Name := ℕ) (U := UU) (Lvl := ℕ) (Val := Elt F) spec1 c
  q _ := fullShare
  owed _ := 0

/-- Window 0's buffer holds its block when the body runs. -/
theorem before1_0 (c : Dev nD) (d : (cfg1.win 0).block.Idx → Elt F (cfg1.win 0).elt) : (dat1 V c).before 0 t1_0 d = stg1_0 V c := by
  unfold Dat.before; rw [if_pos (by decide)]; rfl

/-- Window 1's buffer holds its block when the body runs. -/
theorem before1_1 (c : Dev nD) (d : (cfg1.win 1).block.Idx → Elt F (cfg1.win 1).elt) : (dat1 V c).before 1 t1_0 d = stg1_1 V c := by
  unfold Dat.before; rw [if_pos (by decide)]; rfl

/-- Window 2's buffer holds its block when the body runs. -/
theorem before1_2 (c : Dev nD) (d : (cfg1.win 2).block.Idx → Elt F (cfg1.win 2).elt) : (dat1 V c).before 2 t1_0 d = stg1_2 V c := by
  unfold Dat.before; rw [if_pos (by decide)]; rfl

/-- Window 3's buffer holds its block when the body runs. -/
theorem before1_3 (c : Dev nD) (d : (cfg1.win 3).block.Idx → Elt F (cfg1.win 3).elt) : (dat1 V c).before 3 t1_0 d = stg1_3 V c := by
  unfold Dat.before; rw [if_pos (by decide)]; rfl

/-- Window 4's buffer holds its block when the body runs. -/
theorem before1_4 (c : Dev nD) (d : (cfg1.win 4).block.Idx → Elt F (cfg1.win 4).elt) : (dat1 V c).before 4 t1_0 d = stg1_4 V c := by
  unfold Dat.before; rw [if_pos (by decide)]; rfl

set_option maxHeartbeats 4000000 in
/-- The set-up kernel's body meets the library's obligation. -/
theorem body1 (c : Dev nD) : BodyObligation (dat1 V c) (defs₀ (F := F)) Variants.none () Set.univ := fun t => by
  obtain rfl := fin_N1 t
  rewrite [bigSep_W1, bigSep_W1]
  simp only [owns_whole_eq]
  rewrite [show (dat1 V c).Φ t1_0.castSucc = (dat1 V c).Φ t1_0.succ from rfl,
    show (dat1 V c).owesAt () t1_0.succ = (dat1 V c).owesAt () t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩, ⟨%d6, %f6, -, H6⟩, ⟨%d7, %f7, -, H7⟩⟩
  rw [before1_0] at hf0; subst hf0
  rw [before1_1] at hf1; subst hf1
  rw [before1_2] at hf2; subst hf2
  rw [before1_3] at hf3; subst hf3
  rw [before1_4] at hf4; subst hf4
  iapply ((K1 V c).2 f5 f6 f7 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iintro ⟨H0, H1, H2, H3, H4, H5, H6, H7⟩
  isplitl [HΦ]; · iexact HΦ
  isplitl [Howes]; · iexact Howes
  isplitl [H0]; · iexists _; isplitr; swap; (· iexact H0); ipureintro; dsimp only [dat1]
  isplitl [H1]; · iexists _; isplitr; swap; (· iexact H1); ipureintro; dsimp only [dat1]
  isplitl [H2]; · iexists _; isplitr; swap; (· iexact H2); ipureintro; dsimp only [dat1]
  isplitl [H3]; · iexists _; isplitr; swap; (· iexact H3); ipureintro; dsimp only [dat1]
  isplitl [H4]; · iexists _; isplitr; swap; (· iexact H4); ipureintro; dsimp only [dat1]
  isplitl [H5]; · iexists _; isplitr; swap; (· iexact H5); ipureintro; dsimp only [dat1]; unfold out1_5; rfl
  isplitl [H6]; · iexists _; isplitr; swap; (· iexact H6); ipureintro; dsimp only [dat1]; unfold out1_6; rfl
  iexists _; isplitr; swap; (· iexact H7); ipureintro; dsimp only [dat1]; unfold out1_7; rfl

end Cert.Proof.KI

end
-- ==== Proof.KI.Region2.lean ====
module

public import proofs.«01_k».proof.Proof.KI.Body0
public import proofs.«01_k».proof.Proof.KI.Body1
public import proofs.«01_k».proof.Proof.KI.Body2
public import proofs.«01_k».proof.Proof.Gen.KernelIdeal.Regions
public import Idealize.ShloMosaic.Lib.Pipeline.RegionArraysS
public import Idealize.ShloMosaic.Lib.Pipeline.FrameBody
public import Idealize.ShloMosaic.Lib.Ring

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf)

local notation "𝕄" => MT nD τ sig Unit (Elt F) ℕ UU ℕ

variable (V : Dev nD → Valuation τ sig (Elt F))

/-- Window 0's block as fetched. -/
abbrev stg2_0 (c : Dev nD) : (cfg2.win 0).block.Idx → Elt F (cfg2.win 0).elt :=
  ((cfg2.win 0).blk t2_0).view.read (Elt F) (V c (Proc.devRef .tc main_v0))

/-- Window 1's block as fetched. -/
abbrev stg2_1 (c : Dev nD) : (cfg2.win 1).block.Idx → Elt F (cfg2.win 1).elt :=
  ((cfg2.win 1).blk t2_0).view.read (Elt F) (V c (Proc.devRef .tc main_v6_0))

/-- Window 2's block as fetched. -/
abbrev stg2_2 (c : Dev nD) : (cfg2.win 2).block.Idx → Elt F (cfg2.win 2).elt :=
  ((cfg2.win 2).blk t2_0).view.read (Elt F) (V c (Proc.devRef .tc main_arg2))

/-- Window 3's block as fetched. -/
abbrev stg2_3 (c : Dev nD) : (cfg2.win 3).block.Idx → Elt F (cfg2.win 3).elt :=
  ((cfg2.win 3).blk t2_0).view.read (Elt F) (V c (Proc.devRef .tc main_v1))

/-- Window 4's block as fetched. -/
abbrev stg2_4 (c : Dev nD) : (cfg2.win 4).block.Idx → Elt F (cfg2.win 4).elt :=
  ((cfg2.win 4).blk t2_0).view.read (Elt F) (V c (Proc.devRef .tc main_v2))

/-- Window 5's block as fetched. -/
abbrev stg2_5 (c : Dev nD) : (cfg2.win 5).block.Idx → Elt F (cfg2.win 5).elt :=
  ((cfg2.win 5).blk t2_0).view.read (Elt F) (V c (Proc.devRef .tc main_v6_1))

/-- Window 6's block as fetched. -/
abbrev stg2_6 (c : Dev nD) : (cfg2.win 6).block.Idx → Elt F (cfg2.win 6).elt :=
  ((cfg2.win 6).blk t2_0).view.read (Elt F) (V c (Proc.devRef .tc main_v6_2))

/-- Window 7's block as fetched. -/
abbrev stg2_7 (c : Dev nD) : (cfg2.win 7).block.Idx → Elt F (cfg2.win 7).elt :=
  ((cfg2.win 7).blk t2_0).view.read (Elt F) (V c (Proc.devRef .tc main_v5))

/-- The run at the fetched blocks. -/
abbrev K2 (c : Dev nD) := run2 (F := F) (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0) (stage2_8 0) (hstage2_8 0) (Memref.whole cc2_scratch0) (Memref.isWhole_whole _) (Memref.whole cc2_scratch1) (Memref.isWhole_whole _) c (stg2_0 V c) (stg2_1 V c) (stg2_2 V c) (stg2_3 V c) (stg2_4 V c) (stg2_5 V c) (stg2_6 V c) (stg2_7 V c)

/-- What the main kernel leaves in output window 8. -/
@[irreducible] def out2_8 (c : Dev nD) : (cfg2.win 8).block.Idx → Elt F (cfg2.win 8).elt := (K2 V c).1

/-- The proof data of the main kernel, entered at `V`. -/
def dat2 (c : Dev nD) : Dat τ (Elt F) Unit ℕ UU ℕ cfg2 c where
  A w := V c (Proc.devRef .tc (Pipeline.arrRef spec2 w))
  after w _ := match w with
    | ⟨0, _⟩ => stg2_0 V c
    | ⟨1, _⟩ => stg2_1 V c
    | ⟨2, _⟩ => stg2_2 V c
    | ⟨3, _⟩ => stg2_3 V c
    | ⟨4, _⟩ => stg2_4 V c
    | ⟨5, _⟩ => stg2_5 V c
    | ⟨6, _⟩ => stg2_6 V c
    | ⟨7, _⟩ => stg2_7 V c
    | ⟨8, _⟩ => out2_8 V c
  Φ _ := Pipeline.scopedRest (Ix := Unit) (Name := ℕ) (U := UU) (Lvl := ℕ) (Val := Elt F) spec2 c
  q _ := fullShare
  owed _ := 0

/-- Window 0's buffer holds its block when the body runs. -/
theorem before2_0 (c : Dev nD) (d : (cfg2.win 0).block.Idx → Elt F (cfg2.win 0).elt) : (dat2 V c).before 0 t2_0 d = stg2_0 V c := by
  unfold Dat.before; rw [if_pos (by decide)]; rfl

/-- Window 1's buffer holds its block when the body runs. -/
theorem before2_1 (c : Dev nD) (d : (cfg2.win 1).block.Idx → Elt F (cfg2.win 1).elt) : (dat2 V c).before 1 t2_0 d = stg2_1 V c := by
  unfold Dat.before; rw [if_pos (by decide)]; rfl

/-- Window 2's buffer holds its block when the body runs. -/
theorem before2_2 (c : Dev nD) (d : (cfg2.win 2).block.Idx → Elt F (cfg2.win 2).elt) : (dat2 V c).before 2 t2_0 d = stg2_2 V c := by
  unfold Dat.before; rw [if_pos (by decide)]; rfl

/-- Window 3's buffer holds its block when the body runs. -/
theorem before2_3 (c : Dev nD) (d : (cfg2.win 3).block.Idx → Elt F (cfg2.win 3).elt) : (dat2 V c).before 3 t2_0 d = stg2_3 V c := by
  unfold Dat.before; rw [if_pos (by decide)]; rfl

/-- Window 4's buffer holds its block when the body runs. -/
theorem before2_4 (c : Dev nD) (d : (cfg2.win 4).block.Idx → Elt F (cfg2.win 4).elt) : (dat2 V c).before 4 t2_0 d = stg2_4 V c := by
  unfold Dat.before; rw [if_pos (by decide)]; rfl

/-- Window 5's buffer holds its block when the body runs. -/
theorem before2_5 (c : Dev nD) (d : (cfg2.win 5).block.Idx → Elt F (cfg2.win 5).elt) : (dat2 V c).before 5 t2_0 d = stg2_5 V c := by
  unfold Dat.before; rw [if_pos (by decide)]; rfl

/-- Window 6's buffer holds its block when the body runs. -/
theorem before2_6 (c : Dev nD) (d : (cfg2.win 6).block.Idx → Elt F (cfg2.win 6).elt) : (dat2 V c).before 6 t2_0 d = stg2_6 V c := by
  unfold Dat.before; rw [if_pos (by decide)]; rfl

/-- Window 7's buffer holds its block when the body runs. -/
theorem before2_7 (c : Dev nD) (d : (cfg2.win 7).block.Idx → Elt F (cfg2.win 7).elt) : (dat2 V c).before 7 t2_0 d = stg2_7 V c := by
  unfold Dat.before; rw [if_pos (by decide)]; rfl

set_option maxHeartbeats 4000000 in
/-- The main kernel's body meets the library's obligation. -/
theorem body2 (c : Dev nD) : BodyObligation (dat2 V c) (defs₀ (F := F)) Variants.none () Set.univ := fun t => by
  obtain rfl := fin_N2 t
  rewrite [bigSep_W2, bigSep_W2]
  simp only [owns_whole_eq]
  rewrite [show (dat2 V c).Φ t2_0.castSucc = (dat2 V c).Φ t2_0.succ from rfl,
    show (dat2 V c).owesAt () t2_0.succ = (dat2 V c).owesAt () t2_0.castSucc from rfl]
  rewrite [show (dat2 V c).Φ t2_0.succ = Pipeline.scopedRest (Ix := Unit) (Name := ℕ) (U := UU) (Lvl := ℕ) (Val := Elt F) spec2 c from rfl, scopedRest2_eq]
  iintro ⟨⟨G0, G1, G2, G3, G4, G5, G6, G7, G8, G9, G10, G11, ⟨%s0, HS0⟩, ⟨%s1, HS1⟩⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩⟩
  rw [before2_0] at hf0; subst hf0
  rw [before2_1] at hf1; subst hf1
  rw [before2_2] at hf2; subst hf2
  rw [before2_3] at hf3; subst hf3
  rw [before2_4] at hf4; subst hf4
  rw [before2_5] at hf5; subst hf5
  rw [before2_6] at hf6; subst hf6
  rw [before2_7] at hf7; subst hf7
  iapply ((K2 V c).2 f8 s0 s1 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HS0]; · iexact HS0
  isplitl [HS1]; · iexact HS1
  iintro ⟨H0, H1, H2, H3, H4, H5, H6, H7, H8, HS0, HS1⟩
  isplitl [G0 G1 G2 G3 G4 G5 G6 G7 G8 G9 G10 G11 HS0 HS1]
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [G9]; · iexact G9
    isplitl [G10]; · iexact G10
    isplitl [G11]; · iexact G11
    isplitl [HS0]; · iexact HS0
    iexact HS1
  isplitl [Howes]; · iexact Howes
  isplitl [H0]; · iexists _; isplitr; swap; (· iexact H0); ipureintro; dsimp only [dat2]
  isplitl [H1]; · iexists _; isplitr; swap; (· iexact H1); ipureintro; dsimp only [dat2]
  isplitl [H2]; · iexists _; isplitr; swap; (· iexact H2); ipureintro; dsimp only [dat2]
  isplitl [H3]; · iexists _; isplitr; swap; (· iexact H3); ipureintro; dsimp only [dat2]
  isplitl [H4]; · iexists _; isplitr; swap; (· iexact H4); ipureintro; dsimp only [dat2]
  isplitl [H5]; · iexists _; isplitr; swap; (· iexact H5); ipureintro; dsimp only [dat2]
  isplitl [H6]; · iexists _; isplitr; swap; (· iexact H6); ipureintro; dsimp only [dat2]
  isplitl [H7]; · iexists _; isplitr; swap; (· iexact H7); ipureintro; dsimp only [dat2]
  iexists _; isplitr; swap; (· iexact H8); ipureintro; dsimp only [dat2]; unfold out2_8; rfl

end Cert.Proof.KI

end
-- ==== Proof.KI.Records.lean ====
module

public import proofs.«01_k».proof.Proof.KI.Body0
public import proofs.«01_k».proof.Proof.KI.Body1
public import proofs.«01_k».proof.Proof.KI.Body2
public import proofs.«01_k».proof.Proof.KI.Region0
public import proofs.«01_k».proof.Proof.KI.Region1
public import proofs.«01_k».proof.Proof.KI.Region2
public import proofs.«01_k».proof.Proof.Gen.KernelIdeal.Regions
public import Idealize.ShloMosaic.Lib.Pipeline.RegionArraysS
public import Idealize.ShloMosaic.Lib.Pipeline.FrameBody
public import Idealize.ShloMosaic.Lib.Ring

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf RegionSeg Seg HostSeg)

local notation "𝕄" => MT nD τ sig Unit (Elt F) ℕ UU ℕ

variable (m : (ℓ : Loc nD τ sig) → Buf (Elt F) ℓ)

/-! ## What the regions leave -/

/-- What region 0 leaves, at every reference. -/
def outsA : Outs (F := F) := fun _ r c => Pipeline.afterRegion (dat0 (V0 m) c) (V0 m c) (Proc.devRef .tc r)
/-- What regions 0 and 1 leave. -/
def outsB : Outs (F := F) := fun j => if j = 3 then fun r c => Pipeline.afterRegion (dat1 (V2 m (outsA m)) c) (V2 m (outsA m) c) (Proc.devRef .tc r) else outsA m j
/-- What the three regions leave. -/
def outs : Outs (F := F) := fun j => if j = 4 then fun r c => Pipeline.afterRegion (dat2 (V3 m (outsB m)) c) (V3 m (outsB m) c) (Proc.devRef .tc r) else outsB m j

/-- Region 0 leaves what the first table says. -/
theorem outs_1 : outs m 1 = outsA m 1 := by unfold outs outsB; rw [if_neg (by decide), if_neg (by decide)]
/-- The second table agrees with the first at region 0. -/
theorem outsB_1 : outsB m 1 = outsA m 1 := by unfold outsB; rw [if_neg (by decide)]
/-- The third table agrees with the second at region 1. -/
theorem outs_3 : outs m 3 = outsB m 3 := by unfold outs; rw [if_neg (by decide)]
/-- The values ahead of region 1 depend on region 0 alone. -/
theorem outs_V2 : V2 m (outs m) = V2 m (outsA m) := by funext c; unfold V2 V1; rw [outs_1]
/-- The values ahead of region 2 depend on regions 0 and 1 alone. -/
theorem outs_V3 : V3 m (outs m) = V3 m (outsB m) := by
  funext c; unfold V3 V2 V1; rw [outs_1, outs_3, outsB_1]

/-- The proof data of the three pipelines, each at its entry. -/
def pdats : (p : Fin 3) → (c : Dev nD) → Dat τ (Elt F) Unit ℕ UU ℕ (cfgs p) c
  | ⟨0, _⟩ => fun c => dat0 (V0 m) c
  | ⟨1, _⟩ => fun c => dat1 (V2 m (outs m)) c
  | ⟨2, _⟩ => fun c => dat2 (V3 m (outs m)) c

/-- A reference a region does not write keeps its contents; the ones it writes are named. -/
theorem V1_eq (c : Dev nD) : ∀ b ∈ Pipeline.ucRefs τ sig, Pipeline.afterRegion (dat0 (V0 m) c) (V0 m c) b = V1 m (outs m) c b := by
  intro b hb
  by_cases h : b = Proc.devRef .tc main_v0
  · subst h
    unfold V1
    rw [Function.update_self, outs_1]; rfl
  · unfold V1
    rw [Function.update_of_ne h]
    by_cases hm : b ∈ Pipeline.arrRefs spec0
    · obtain ⟨r, hr, rfl⟩ := Finset.mem_map.mp hm
      refine Pipeline.afterRegion_keeps (dat0 (V0 m) c) (V0 m c) launch0.win.arr_inj (fun _ => rfl) r ?_
      intro w hw
      subst hw
      match w with
      | ⟨0, _⟩ => rfl
      | ⟨1, _⟩ => exact absurd rfl h
    · exact Pipeline.afterRegion_off (dat0 (V0 m) c) (V0 m c) _ b (Finset.mem_sdiff.mpr ⟨hb, hm⟩)

/-- Region 1 leaves the values the next stretch starts from. -/
theorem V3_eq (c : Dev nD) : ∀ b ∈ Pipeline.ucRefs τ sig, Pipeline.afterRegion (dat1 (V2 m (outs m)) c) (V2 m (outs m) c) b = V3 m (outs m) c b := by
  intro b hb
  have e3 : ∀ r, outs m 3 r c = Pipeline.afterRegion (dat1 (V2 m (outs m)) c) (V2 m (outs m) c) (Proc.devRef .tc r) := by
    intro r; rw [outs_3, outs_V2]; unfold outsB; rw [if_pos rfl]
  unfold V3
  by_cases h2 : b = Proc.devRef .tc main_v6_2
  · subst h2; rw [Function.update_self, e3]
  rw [Function.update_of_ne h2]
  by_cases h1 : b = Proc.devRef .tc main_v6_1
  · subst h1; rw [Function.update_self, e3]
  rw [Function.update_of_ne h1]
  by_cases h0 : b = Proc.devRef .tc main_v6_0
  · subst h0; rw [Function.update_self, e3]
  rw [Function.update_of_ne h0]
  by_cases hm : b ∈ Pipeline.arrRefs spec1
  · obtain ⟨r, hr, rfl⟩ := Finset.mem_map.mp hm
    refine Pipeline.afterRegion_keeps (dat1 (V2 m (outs m)) c) (V2 m (outs m) c) launch1.win.arr_inj (fun _ => rfl) r ?_
    intro w hw
    subst hw
    match w with
    | ⟨0, _⟩ => rfl
    | ⟨1, _⟩ => rfl
    | ⟨2, _⟩ => rfl
    | ⟨3, _⟩ => rfl
    | ⟨4, _⟩ => rfl
    | ⟨5, _⟩ => exact absurd rfl h0
    | ⟨6, _⟩ => exact absurd rfl h1
    | ⟨7, _⟩ => exact absurd rfl h2
  · exact Pipeline.afterRegion_off (dat1 (V2 m (outs m)) c) (V2 m (outs m) c) _ b (Finset.mem_sdiff.mpr ⟨hb, hm⟩)

/-- Region 2 leaves the values the next stretch starts from. -/
theorem V4_eq (c : Dev nD) : ∀ b ∈ Pipeline.ucRefs τ sig, Pipeline.afterRegion (dat2 (V3 m (outs m)) c) (V3 m (outs m) c) b = V4 m (outs m) c b := by
  intro b hb
  have e4 : ∀ r, outs m 4 r c = Pipeline.afterRegion (dat2 (V3 m (outs m)) c) (V3 m (outs m) c) (Proc.devRef .tc r) := by
    intro r; rw [outs_V3]; unfold outs; rw [if_pos rfl]
  unfold V4
  by_cases h2 : b = Proc.devRef .tc main_v7
  · subst h2; rw [Function.update_self, e4]
  rw [Function.update_of_ne h2]
  by_cases hm : b ∈ Pipeline.arrRefs spec2
  · obtain ⟨r, hr, rfl⟩ := Finset.mem_map.mp hm
    refine Pipeline.afterRegion_keeps (dat2 (V3 m (outs m)) c) (V3 m (outs m) c) launch2.win.arr_inj (fun _ => rfl) r ?_
    intro w hw
    subst hw
    match w with
    | ⟨0, _⟩ => rfl
    | ⟨1, _⟩ => rfl
    | ⟨2, _⟩ => rfl
    | ⟨3, _⟩ => rfl
    | ⟨4, _⟩ => rfl
    | ⟨5, _⟩ => rfl
    | ⟨6, _⟩ => rfl
    | ⟨7, _⟩ => rfl
    | ⟨8, _⟩ => exact absurd rfl h2
  · exact Pipeline.afterRegion_off (dat2 (V3 m (outs m)) c) (V3 m (outs m) c) _ b (Finset.mem_sdiff.mpr ⟨hb, hm⟩)

/-! ## The region records -/

/-- Every cell of a TensorCore may be waited on, at level zero. -/
def L₀ : GSem nD τ sig → Finset Unit := fun g => if g.1.2 = .tc then Finset.univ else ∅
/-- The one level. -/
def lv₀ : GSem nD τ sig → Unit → ℕ := fun _ _ => 0

/-- What rides along: the core owes nothing. -/
abbrev E₀ (c : Dev nD) : sProp 𝕄 := iprop(∃ W, owes (c : Thread nD τ) (0 : CellTallies nD τ sig Unit) W)

/-- No region waits on anything outside itself, so every level cut is trivial. -/
theorem cut₀ (p : Fin 3) : Pipeline.LevelCut (pcfgs (F := F)) adm () L₀ lv₀ p (fun _ => 0) (fun _ => 0) where
  hι _ _ _ := by unfold L₀; rw [if_pos rfl]; exact Finset.mem_univ _
  hιb _ _ _ := le_refl _
  hD _ _ _ h := absurd h (lt_irrefl _)

/-- At entry a region takes its scoped buffers beside nothing as its scoped buffers. -/
theorem rest_in {gr W} (sp : Fin W → Pipeline.WinSpec sig gr) (c : Dev nD) :
    iprop(Pipeline.scopedRest (Ix := Unit) (Name := ℕ) (U := UU) (Lvl := ℕ) (Val := Elt F) sp c ∗ emp) ⊢ (Pipeline.scopedRest sp c : sProp 𝕄) := by
  iintro ⟨H, -⟩; iexact H

/-- At exit a region gives its scoped buffers back beside nothing. -/
theorem rest_out {gr W} (sp : Fin W → Pipeline.WinSpec sig gr) (c : Dev nD) :
    (Pipeline.scopedRest sp c : sProp 𝕄) ⊢ iprop(Pipeline.scopedRest (Ix := Unit) (Name := ℕ) (U := UU) (Lvl := ℕ) (Val := Elt F) sp c ∗ emp) := by
  iintro H; isplitl [H]; · iexact H
  iempintro

/-- The data of region 0. -/
theorem pdats_0 : pdats m 0 = fun c => dat0 (V0 m) c := rfl

/-- The invariant of region 0 holds its scoped buffers only. -/
theorem phi0 (c : Dev nD) (t) : (pdats m 0 c).Φ t = Pipeline.scopedRest spec0 c := by rw [pdats_0]; rfl

/-- The arrays of region 0 lie among the buffers the host holds. -/
theorem sub0 : Pipeline.arrRefs (pcfgs (F := F) 0).spec ⊆ Pipeline.ucRefs τ sig := Pipeline.arrRefs_sub_ucRefs _ (launch0.toP (Val := Elt F)).win.arr_unscoped

/-- The data of region 1. -/
theorem pdats_1 : pdats m 1 = fun c => dat1 (V2 m (outs m)) c := rfl

/-- The invariant of region 1 holds its scoped buffers only. -/
theorem phi1 (c : Dev nD) (t) : (pdats m 1 c).Φ t = Pipeline.scopedRest spec1 c := by rw [pdats_1]; rfl

/-- The arrays of region 1 lie among the buffers the host holds. -/
theorem sub1 : Pipeline.arrRefs (pcfgs (F := F) 1).spec ⊆ Pipeline.ucRefs τ sig := Pipeline.arrRefs_sub_ucRefs _ (launch1.toP (Val := Elt F)).win.arr_unscoped

/-- The data of region 2. -/
theorem pdats_2 : pdats m 2 = fun c => dat2 (V3 m (outs m)) c := rfl

/-- The invariant of region 2 holds its scoped buffers only. -/
theorem phi2 (c : Dev nD) (t) : (pdats m 2 c).Φ t = Pipeline.scopedRest spec2 c := by rw [pdats_2]; rfl

/-- The arrays of region 2 lie among the buffers the host holds. -/
theorem sub2 : Pipeline.arrRefs (pcfgs (F := F) 2).spec ⊆ Pipeline.ucRefs τ sig := Pipeline.arrRefs_sub_ucRefs _ (launch2.toP (Val := Elt F)).win.arr_unscoped

/-- Region 0. -/
def R0 : RegionSeg (pcfgs (F := F)) adm (pdats m) () defs₀ Variants.none L₀ lv₀ 0 :=
  RegionSeg.ofHeldIn (pcfgs (F := F)) adm (pdats m) () defs₀ Variants.none L₀ lv₀ 0 (fun _ => 0) (Pipeline.ucRefs τ sig) (fun _ => iprop(emp)) (fun _ => iprop(emp))
    launch0.toP rfl (fun c => (body0 (V0 m) c).loose) (fun _ _ => rfl) (fun _ => rfl) (fun c => (dat0 (V0 m) c).share_full fun _ => rfl)
    (fun c => by rewrite [phi0]; exact rest_in _ c) (fun c => by rewrite [phi0]; exact rest_out _ c) (fun _ => 0) (cut₀ 0) (fun _ => iprop(emp)) (V0 m) (fun _ _ => rfl)

/-- Region 1. -/
def R1 : RegionSeg (pcfgs (F := F)) adm (pdats m) () defs₀ Variants.none L₀ lv₀ 1 :=
  RegionSeg.ofHeldIn (pcfgs (F := F)) adm (pdats m) () defs₀ Variants.none L₀ lv₀ 1 (fun _ => 0) (Pipeline.ucRefs τ sig) (fun _ => iprop(emp)) (fun _ => iprop(emp))
    launch1.toP rfl (fun c => (body1 (V2 m (outs m)) c).loose) (fun _ _ => rfl) (fun _ => rfl) (fun c => (dat1 (V2 m (outs m)) c).share_full fun _ => rfl)
    (fun c => by rewrite [phi1]; exact rest_in _ c) (fun c => by rewrite [phi1]; exact rest_out _ c) (fun _ => 0) (cut₀ 1) (fun _ => iprop(emp)) (V2 m (outs m)) (fun _ _ => rfl)

/-- Region 2. -/
def R2 : RegionSeg (pcfgs (F := F)) adm (pdats m) () defs₀ Variants.none L₀ lv₀ 2 :=
  RegionSeg.ofHeldIn (pcfgs (F := F)) adm (pdats m) () defs₀ Variants.none L₀ lv₀ 2 (fun _ => 0) (Pipeline.ucRefs τ sig) (fun _ => iprop(emp)) (fun _ => iprop(emp))
    launch2.toP rfl (fun c => (body2 (V3 m (outs m)) c).loose) (fun _ _ => rfl) (fun _ => rfl) (fun c => (dat2 (V3 m (outs m)) c).share_full fun _ => rfl)
    (fun c => by rewrite [phi2]; exact rest_in _ c) (fun c => by rewrite [phi2]; exact rest_out _ c) (fun _ => 0) (cut₀ 2) (fun _ => iprop(emp)) (V3 m (outs m)) (fun _ _ => rfl)

/-- What the host holds before region 0 is what the region asks for. -/
theorem pre0 (c : Dev nD) : iprop(StableHlo.held (c : Thread nD τ) (Pipeline.ucRefs τ sig) (V0 m c) ∗ E₀ c) ⊢ (R0 m).pre c := by
  refine BIBase.Entails.trans ?_ (RegionSeg.ofHeldIn_pre (sub0 (F := F)) c)
  iintro ⟨H, HE⟩
  isplitl [H]; · iexact H
  isplitl [HE]; · iexact HE
  isplitl [] <;> iempintro

/-- What region 0 leaves is what the host holds after it. -/
theorem post0 (c : Dev nD) : (R0 m).post c ⊢ iprop(StableHlo.held (c : Thread nD τ) (Pipeline.ucRefs τ sig) (V1 m (outs m) c) ∗ E₀ c) := by
  refine BIBase.Entails.trans (RegionSeg.ofHeldIn_post (sub0 (F := F)) c) ?_
  rewrite [← StableHlo.held_congr (c.tc : Thread nD τ) (V1_eq m c)]
  iintro ⟨H, HE, -, -⟩
  isplitl [H]; · iexact H
  iexact HE

/-- What the host holds before region 1 is what the region asks for. -/
theorem pre1 (c : Dev nD) : iprop(StableHlo.held (c : Thread nD τ) (Pipeline.ucRefs τ sig) (V2 m (outs m) c) ∗ E₀ c) ⊢ (R1 m).pre c := by
  refine BIBase.Entails.trans ?_ (RegionSeg.ofHeldIn_pre (sub1 (F := F)) c)
  iintro ⟨H, HE⟩
  isplitl [H]; · iexact H
  isplitl [HE]; · iexact HE
  isplitl [] <;> iempintro

/-- What region 1 leaves is what the host holds after it. -/
theorem post1 (c : Dev nD) : (R1 m).post c ⊢ iprop(StableHlo.held (c : Thread nD τ) (Pipeline.ucRefs τ sig) (V3 m (outs m) c) ∗ E₀ c) := by
  refine BIBase.Entails.trans (RegionSeg.ofHeldIn_post (sub1 (F := F)) c) ?_
  rewrite [← StableHlo.held_congr (c.tc : Thread nD τ) (V3_eq m c)]
  iintro ⟨H, HE, -, -⟩
  isplitl [H]; · iexact H
  iexact HE

/-- What the host holds before region 2 is what the region asks for. -/
theorem pre2 (c : Dev nD) : iprop(StableHlo.held (c : Thread nD τ) (Pipeline.ucRefs τ sig) (V3 m (outs m) c) ∗ E₀ c) ⊢ (R2 m).pre c := by
  refine BIBase.Entails.trans ?_ (RegionSeg.ofHeldIn_pre (sub2 (F := F)) c)
  iintro ⟨H, HE⟩
  isplitl [H]; · iexact H
  isplitl [HE]; · iexact HE
  isplitl [] <;> iempintro

/-- What region 2 leaves is what the host holds after it. -/
theorem post2 (c : Dev nD) : (R2 m).post c ⊢ iprop(StableHlo.held (c : Thread nD τ) (Pipeline.ucRefs τ sig) (V4 m (outs m) c) ∗ E₀ c) := by
  refine BIBase.Entails.trans (RegionSeg.ofHeldIn_post (sub2 (F := F)) c) ?_
  rewrite [← StableHlo.held_congr (c.tc : Thread nD τ) (V4_eq m c)]
  iintro ⟨H, HE, -, -⟩
  isplitl [H]; · iexact H
  iexact HE

end Cert.Proof.KI

end
-- ==== Proof.KI.Run.lean ====
module

public import proofs.«01_k».proof.Proof.KI.Body0
public import proofs.«01_k».proof.Proof.KI.Body1
public import proofs.«01_k».proof.Proof.KI.Body2
public import proofs.«01_k».proof.Proof.KI.Records
public import proofs.«01_k».proof.Proof.Gen.KernelIdeal.Regions
public import Idealize.ShloMosaic.Lib.Pipeline.RegionArraysS
public import Idealize.ShloMosaic.Lib.Pipeline.FrameBody
public import Idealize.ShloMosaic.Lib.Ring
public import Idealize.ShloMosaic.Lib.StableHlo.RunLoop

@[expose] public section

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

open Idealize.ShloMosaic.Rounds
open Idealize.ShloMosaic.Pipeline (Dat Cfg Window BodyObligation cellOf RegionSeg Seg HostSeg)

local notation "𝕄" => MT nD τ sig Unit (Elt F) ℕ UU ℕ

variable (m : (ℓ : Loc nD τ sig) → Buf (Elt F) ℓ)

/-- The launch element: every staging cell's owner at its first round and a duty token for every transfer. -/
def u₀ : UU := initOf (Pipeline.cells cfgs cellOf_inj) (Pipeline.launchToks cfgs cellOf_inj)

set_option backward.isDefEq.respectTransparency.types false in
/-- The whole program's run: it ends with the arguments as launched, the result at the last valuation and every counter at zero. -/
theorem run_kernel (ρ : Dev nD → PrngReg) :
    θ_run defs (onTc (τ := τ) (main (F := F))) ⟨m, fun _ => 0, ρ⟩ (fun r => (∀ c : Dev nD,
      ((r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc main_v10) = V5 m (outs m) c (Proc.devRef .tc main_v10)))
      ∧ r.2.sem = fun _ => 0) := by
  refine Pipeline.θ_run_regions_kit_dev_sems (pcfgs (F := F)) adm (pdats m) () cellOf_inj emb₁ defs₀ Variants.none L₀ lv₀ m ρ main
    (segs m (outs m) Variants.none L₀ lv₀ (fun _ => E₀) () (pdats m) (R0 m) (R1 m) (R2 m))
    (fun c Q => by
      rewrite [main_chain c, Seg.run_eq_chain,
        show (segs m (outs m) Variants.none L₀ lv₀ (fun _ => E₀) () (pdats m) (R0 m) (R1 m) (R2 m) c).map Seg.prog = [
          Prog.lift (.customCall (Pipeline.entry 0) ()),
          StableHlo.seq hostOps1,
          Prog.lift (.customCall (Pipeline.entry 1) ()),
          Prog.lift (.customCall (Pipeline.entry 2) ()),
          StableHlo.seq hostOps3 ] from rfl]
      dsimp (config := { failIfUnchanged := false }) only
      exact .rfl)
    (fun c => by simp only [segs, Seg.pipes_host, Seg.pipes_region, Seg.pipes_nil]; decide) (fun _ => 0)
    (fun g hg => by unfold L₀; rw [if_neg hg]) (fun _ => iprop(emp)) u₀
    (by
      iintro H
      imodintro
      isplitl [H]
      · iapply (show (ownU u₀ : sProp 𝕄) ⊢ BI.own (emb₁ (initOf (Pipeline.cells (Pipeline.pin (pcfgs (F := F)) adm) cellOf_inj) (Pipeline.launchToks (Pipeline.pin (pcfgs (F := F)) adm) cellOf_inj))) from BI.Entails.refl _)
        iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E₀ c))
    (Tₙ := fun c => StableHlo.held (c : Thread nD τ) (Pipeline.ucRefs τ sig) (V5 m (outs m) c))
    (hch := fun c => ⟨pre0 m c, post0 m c, pre1 m c, (post1 m c).trans (pre2 m c), post2 m c, sep_mono .rfl .rfl⟩)
    (hinit := ?_)
    (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4))
      ∧ s.mem ((c.tc : Thread nD τ).loc main_v10) = V5 m (outs m) c (Proc.devRef .tc main_v10))
    (hfin := fun c s' => ?_) (hQ := fun _ h hz => ⟨h, funext fun g => hz g (.inr (regions_no_unscoped g.2))⟩)
  · refine Pipeline.initEach L₀ lv₀ fun c => ?_
    rw [show unscopedBufs c (fun b => m ((c : Thread nD τ).loc b)) = StableHlo.held (c : Thread nD τ) (Pipeline.ucRefs τ sig) (V0 m c) from Pipeline.unscopedBufs_held c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V5 m (outs m) c) s') $$ [Hh HSI]
    · isplitl [Hh] <;> iassumption
    icases Hr with ⟨%h, HSI⟩
    imodintro
    isplitr
    · ipureintro
      have hm : ∀ b : Ref sig .tc, (Proc.devRef .tc b : DevRef τ sig).isScoped = false → s'.mem.mem ((c.tc : Thread nD τ).loc b) = V5 m (outs m) c (Proc.devRef .tc b) :=
        fun b hb => h (Proc.devRef .tc b) (StableHlo.devRef_mem_ucRefs b hb)
      exact ⟨⟨(hm main_arg0 rfl).trans (V5_main_arg0 m _ c), (hm main_arg1 rfl).trans (V5_main_arg1 m _ c), (hm main_arg2 rfl).trans (V5_main_arg2 m _ c),
        (hm main_arg3 rfl).trans (V5_main_arg3 m _ c), (hm main_arg4 rfl).trans (V5_main_arg4 m _ c)⟩, hm main_v10 rfl⟩
    · iexact HSI

end Cert.Proof.KI

end
-- ==== Proof.KI.FrameP.lean ====
module

public import proofs.«01_k».proof.Proof.KI.Run
public import proofs.«01_k».proof.Proof.Gen.Kernel
public import proofs.«01_k».proof.Defs
public import Idealize.ShloMosaic.Lib.StableHlo.RunHlo

@[expose] public section

noncomputable section

namespace Cert.Proof.KI

open Idealize.ShloMosaic Idealize.ShloMosaic.TcCoe

/-- The three bodies are the same programs. -/
theorem body2_eq : @Cert.Kernel.cc2_wlayer_main Bits _ Cert.Kernel.Gen.facts = @Cert.KernelIdeal.cc2_wlayer_main Bits _ Cert.KernelIdeal.Gen.facts := rfl
/-- The set-up kernel is the same function in both programs. -/
theorem body1_eq : @Cert.Kernel.cc1_wlayer_setup Bits _ Cert.Kernel.Gen.facts = @Cert.KernelIdeal.cc1_wlayer_setup Bits _ Cert.KernelIdeal.Gen.facts := rfl
/-- The transposing kernel is the same function in both programs. -/
theorem body0_eq : @Cert.Kernel.cc0_wlayer_lprep Bits _ Cert.Kernel.Gen.facts = @Cert.KernelIdeal.cc0_wlayer_lprep Bits _ Cert.KernelIdeal.Gen.facts := rfl

set_option maxHeartbeats 4000000 in
/-- The body tables agree, label by label. -/
theorem defs₀_same : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Λ := Cert.KernelIdeal.Λ₀)) ?_
  funext l a
  match l with
  | ⟨0, _⟩ => rw [body0_eq]; rfl
  | ⟨1, _⟩ => rw [body1_eq]
  | ⟨2, _⟩ => rw [body2_eq]

/-- The two programs have the same functions at the bit patterns. -/
theorem defs_same : Cert.Kernel.defs (F := Bits) = Cert.KernelIdeal.defs (F := Bits) := by
  show Pipeline.defs Cert.KernelIdeal.pcfgs (Cert.Kernel.defs₀ (F := Bits)) = Pipeline.defs Cert.KernelIdeal.pcfgs (Cert.KernelIdeal.defs₀ (F := Bits))
  rw [defs₀_same]

set_option maxHeartbeats 4000000 in
/-- The whole programs agree. -/
theorem main_same : Cert.Kernel.main (F := Bits) = Cert.KernelIdeal.main (F := Bits) := rfl

/-- The printed kernel at the machine's floats is the same program, so its run is the one proved for any floats. -/
theorem frame_kernel : Cert.quiescent_Kernel (hKernel := Cert.Kernel.Gen.facts) := by
  intro m g hm
  rw [defs_same, main_same]
  exact θ_run_mono (run_kernel (F := Bits) m g) fun r hr => ⟨fun c => (hr.1 c).1, hr.2⟩

end Cert.Proof.KI

end
-- ==== Proof.RI.Ops.lean ====
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 8192

noncomputable section

namespace Cert.Proof.RI

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

set_option maxHeartbeats 4000000 in
/-- The operations before the first loop: the mask, the right-hand side, each row's matrix and the start of the power method. -/
abbrev preOps : List (HloOp τ sig (Elt F)) :=
  [ StableHlo.unary main_arg0 main_v0 (sitofp .f32 : (⟨S4096x512, .i32⟩ : BufTy).Contents (Elt F) → (⟨S4096x512, .f32⟩ : BufTy).Contents (Elt F)),
    StableHlo.binary main_v0 main_arg4 main_v1 (mulf : (⟨S4096x512, .f32⟩ : BufTy).Contents (Elt F) → (⟨S4096x512, .f32⟩ : BufTy).Contents (Elt F) → (⟨S4096x512, .f32⟩ : BufTy).Contents (Elt F)),
    StableHlo.unary main_arg2 main_v2 ((transpose S512x64 [1, 0] · transposes_S64x512_S512x64_1_0) : (⟨S64x512, .f32⟩ : BufTy).Contents (Elt F) → (⟨S512x64, .f32⟩ : BufTy).Contents (Elt F)),
    StableHlo.binary main_v1 main_v2 main_v3 ((fun l r => Host.dotGeneral dot_S4096x512_S512x64_S4096x64_1_0_0_1_n_n none l r) : (⟨S4096x512, .f32⟩ : BufTy).Contents (Elt F) → (⟨S512x64, .f32⟩ : BufTy).Contents (Elt F) → (⟨S4096x64, .f32⟩ : BufTy).Contents (Elt F)),
    StableHlo.nullary main_v4 (iotaInDim S64x64 32 0),
    StableHlo.nullary main_v5 (iotaInDim S64x64 32 1),
    StableHlo.nullary main_c (constantI S_ 32 0#32),
    StableHlo.unary main_c main_v6 (broadcastInDim S64x64 ![] bcast_S_S64x64 : (⟨S_, .i32⟩ : BufTy).Contents (Elt F) → (⟨S64x64, .i32⟩ : BufTy).Contents (Elt F)),
    StableHlo.binary main_v4 main_v6 main_v7 (addi : (⟨S64x64, .i32⟩ : BufTy).Contents (Elt F) → (⟨S64x64, .i32⟩ : BufTy).Contents (Elt F) → (⟨S64x64, .i32⟩ : BufTy).Contents (Elt F)),
    StableHlo.binary main_v7 main_v5 main_v8 (cmpi .eq : (⟨S64x64, .i32⟩ : BufTy).Contents (Elt F) → (⟨S64x64, .i32⟩ : BufTy).Contents (Elt F) → (⟨S64x64, .i1⟩ : BufTy).Contents (Elt F)),
    StableHlo.unary main_v8 main_v9 (uitofp .f32 : (⟨S64x64, .i1⟩ : BufTy).Contents (Elt F) → (⟨S64x64, .f32⟩ : BufTy).Contents (Elt F)),
    StableHlo.unary main_arg2 main_v10 (broadcastInDim S64x1x512 ![0, 2] bcast_S64x512_S64x1x512_0_2 : (⟨S64x512, .f32⟩ : BufTy).Contents (Elt F) → (⟨S64x1x512, .f32⟩ : BufTy).Contents (Elt F)),
    StableHlo.unary main_arg2 main_v11 (broadcastInDim S1x64x512 ![1, 2] bcast_S64x512_S1x64x512_1_2 : (⟨S64x512, .f32⟩ : BufTy).Contents (Elt F) → (⟨S1x64x512, .f32⟩ : BufTy).Contents (Elt F)),
    StableHlo.unary main_v10 main_v12 (broadcastInDim S64x64x512 ![0, 1, 2] bcast_S64x1x512_S64x64x512_0_1_2 : (⟨S64x1x512, .f32⟩ : BufTy).Contents (Elt F) → (⟨S64x64x512, .f32⟩ : BufTy).Contents (Elt F)),
    StableHlo.unary main_v11 main_v13 (broadcastInDim S64x64x512 ![0, 1, 2] bcast_S1x64x512_S64x64x512_0_1_2 : (⟨S1x64x512, .f32⟩ : BufTy).Contents (Elt F) → (⟨S64x64x512, .f32⟩ : BufTy).Contents (Elt F)),
    StableHlo.binary main_v12 main_v13 main_v14 (mulf : (⟨S64x64x512, .f32⟩ : BufTy).Contents (Elt F) → (⟨S64x64x512, .f32⟩ : BufTy).Contents (Elt F) → (⟨S64x64x512, .f32⟩ : BufTy).Contents (Elt F)),
    StableHlo.binary main_v0 main_v14 main_v15 ((fun l r => Host.dotGeneral dot_S4096x512_S64x64x512_S4096x64x64_1_2_0_01_n_n none l r) : (⟨S4096x512, .f32⟩ : BufTy).Contents (Elt F) → (⟨S64x64x512, .f32⟩ : BufTy).Contents (Elt F) → (⟨S4096x64x64, .f32⟩ : BufTy).Contents (Elt F)),
    StableHlo.nullary main_cst (constant S_ .f32 0x3DCCCCCD#32),
    StableHlo.unary main_cst main_v16 (broadcastInDim S64x64 ![] bcast_S_S64x64 : (⟨S_, .f32⟩ : BufTy).Contents (Elt F) → (⟨S64x64, .f32⟩ : BufTy).Contents (Elt F)),
    StableHlo.binary main_v16 main_v9 main_v17 (mulf : (⟨S64x64, .f32⟩ : BufTy).Contents (Elt F) → (⟨S64x64, .f32⟩ : BufTy).Contents (Elt F) → (⟨S64x64, .f32⟩ : BufTy).Contents (Elt F)),
    StableHlo.unary main_v17 main_v18 (broadcastInDim S1x64x64 ![1, 2] bcast_S64x64_S1x64x64_1_2 : (⟨S64x64, .f32⟩ : BufTy).Contents (Elt F) → (⟨S1x64x64, .f32⟩ : BufTy).Contents (Elt F)),
    StableHlo.unary main_v18 main_v19 (broadcastInDim S4096x64x64 ![0, 1, 2] bcast_S1x64x64_S4096x64x64_0_1_2 : (⟨S1x64x64, .f32⟩ : BufTy).Contents (Elt F) → (⟨S4096x64x64, .f32⟩ : BufTy).Contents (Elt F)),
    StableHlo.binary main_v15 main_v19 main_v20 (addf : (⟨S4096x64x64, .f32⟩ : BufTy).Contents (Elt F) → (⟨S4096x64x64, .f32⟩ : BufTy).Contents (Elt F) → (⟨S4096x64x64, .f32⟩ : BufTy).Contents (Elt F)),
    StableHlo.nullary main_v21 (iotaInDim S64x64 32 0),
    StableHlo.nullary main_v22 (iotaInDim S64x64 32 1),
    StableHlo.nullary main_c_0 (constantI S_ 32 0#32),
    StableHlo.unary main_c_0 main_v23 (broadcastInDim S64x64 ![] bcast_S_S64x64 : (⟨S_, .i32⟩ : BufTy).Contents (Elt F) → (⟨S64x64, .i32⟩ : BufTy).Contents (Elt F)),
    StableHlo.binary main_v21 main_v23 main_v24 (addi : (⟨S64x64, .i32⟩ : BufTy).Contents (Elt F) → (⟨S64x64, .i32⟩ : BufTy).Contents (Elt F) → (⟨S64x64, .i32⟩ : BufTy).Contents (Elt F)),
    StableHlo.binary main_v24 main_v22 main_v25 (cmpi .eq : (⟨S64x64, .i32⟩ : BufTy).Contents (Elt F) → (⟨S64x64, .i32⟩ : BufTy).Contents (Elt F) → (⟨S64x64, .i1⟩ : BufTy).Contents (Elt F)),
    StableHlo.unary main_v25 main_v26 (uitofp .f32 : (⟨S64x64, .i1⟩ : BufTy).Contents (Elt F) → (⟨S64x64, .f32⟩ : BufTy).Contents (Elt F)),
    StableHlo.unary main_v26 main_v27 (broadcastInDim S1x64x64 ![1, 2] bcast_S64x64_S1x64x64_1_2 : (⟨S64x64, .f32⟩ : BufTy).Contents (Elt F) → (⟨S1x64x64, .f32⟩ : BufTy).Contents (Elt F)),
    StableHlo.unary main_v27 main_v28 (broadcastInDim S4096x64x64 ![0, 1, 2] bcast_S1x64x64_S4096x64x64_0_1_2 : (⟨S1x64x64, .f32⟩ : BufTy).Contents (Elt F) → (⟨S4096x64x64, .f32⟩ : BufTy).Contents (Elt F)),
    StableHlo.binary main_v20 main_v28 main_v29 (mulf : (⟨S4096x64x64, .f32⟩ : BufTy).Contents (Elt F) → (⟨S4096x64x64, .f32⟩ : BufTy).Contents (Elt F) → (⟨S4096x64x64, .f32⟩ : BufTy).Contents (Elt F)),
    StableHlo.nullary main_cst_1 (constant S_ .f32 0x00000000#32),
    StableHlo.binary main_v29 main_cst_1 main_v30 ((fun x v => Host.reduceAdd x v reducesTo_S4096x64x64_S4096x64_d2 h_S_) : (⟨S4096x64x64, .f32⟩ : BufTy).Contents (Elt F) → (⟨S_, .f32⟩ : BufTy).Contents (Elt F) → (⟨S4096x64, .f32⟩ : BufTy).Contents (Elt F)),
    StableHlo.nullary main_cst_2 (constant S_ .f32 0xFF800000#32),
    StableHlo.binary main_v30 main_cst_2 main_v31 ((fun x v => Host.reduce FloatOps.maximumf x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v31 main_v32 (broadcastInDim S4096x1 ![0] bcast_S4096_S4096x1_0 : (⟨S4096, .f32⟩ : BufTy).Contents (Elt F) → (⟨S4096x1, .f32⟩ : BufTy).Contents (Elt F)),
    StableHlo.unary main_v32 main_v33 (broadcastInDim S4096x64 ![0, 1] bcast_S4096x1_S4096x64_0_1 : (⟨S4096x1, .f32⟩ : BufTy).Contents (Elt F) → (⟨S4096x64, .f32⟩ : BufTy).Contents (Elt F)),
    StableHlo.binary main_v30 main_v33 main_v34 (Host.divf : (⟨S4096x64, .f32⟩ : BufTy).Contents (Elt F) → (⟨S4096x64, .f32⟩ : BufTy).Contents (Elt F) → (⟨S4096x64, .f32⟩ : BufTy).Contents (Elt F)),
    StableHlo.nullary main_c_3 (constantI S_ 32 0#32),
    StableHlo.unary main_v20 main_v35_0 id,
    StableHlo.unary main_c_3 main_v35_1 id,
    StableHlo.unary main_v34 main_v35_2 id ]

/-- They touch TensorCore references only. -/
theorem preOps_sub : (preOps : List (HloOp τ sig (Elt F))).Forall fun op => op.bufs ⊆ StableHlo.tcRefs τ sig :=
  ⟨StableHlo.unary_bufs_sub .., StableHlo.binary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.nullary_bufs_sub .., StableHlo.nullary_bufs_sub .., StableHlo.nullary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.nullary_bufs_sub .., StableHlo.unary_bufs_sub .., StableHlo.unary_bufs_sub .., StableHlo.unary_bufs_sub ..⟩

/-- None of them allocates. -/
theorem preOps_fresh : (preOps : List (HloOp τ sig (Elt F))).Forall fun op => op.fresh = ∅ :=
  StableHlo.forall_fresh_of_map rfl

/-- The references they write. -/
abbrev preOps_W : List (Ref sig .tc) := [main_v0, main_v1, main_v2, main_v3, main_v4, main_v5, main_c, main_v6, main_v7, main_v8, main_v9, main_v10, main_v11, main_v12, main_v13, main_v14, main_v15, main_cst, main_v16, main_v17, main_v18, main_v19, main_v20, main_v21, main_v22, main_c_0, main_v23, main_v24, main_v25, main_v26, main_v27, main_v28, main_v29, main_cst_1, main_v30, main_cst_2, main_v31, main_v32, main_v33, main_v34, main_c_3, main_v35_0, main_v35_1, main_v35_2]

/-- They write those references only. -/
theorem preOps_writes : (preOps : List (HloOp τ sig (Elt F))).Forall fun op => op.writes ⊆ (preOps_W.map (Proc.devRef (τ := τ) .tc)).toFinset :=
  StableHlo.forall_writes_sub_of_map rfl

set_option maxHeartbeats 4000000 in
/-- The operations after the first loop: the Rayleigh quotient, and the second loop's first carried values. -/
abbrev midA : List (HloOp τ sig (Elt F)) :=
  [ StableHlo.binary main_v20 main_v35_2 main_v36 ((fun l r => Host.dotGeneral dot_S4096x64x64_S4096x64_S4096x64_2_1_1_n_0_0 none l r) : (⟨S4096x64x64, .f32⟩ : BufTy).Contents (Elt F) → (⟨S4096x64, .f32⟩ : BufTy).Contents (Elt F) → (⟨S4096x64, .f32⟩ : BufTy).Contents (Elt F)),
    StableHlo.binary main_v35_2 main_v36 main_v37 (mulf : (⟨S4096x64, .f32⟩ : BufTy).Contents (Elt F) → (⟨S4096x64, .f32⟩ : BufTy).Contents (Elt F) → (⟨S4096x64, .f32⟩ : BufTy).Contents (Elt F)),
    StableHlo.nullary main_cst_4 (constant S_ .f32 0x00000000#32),
    StableHlo.binary main_v37 main_cst_4 main_v38 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v38 main_v39 (broadcastInDim S4096x1 ![0] bcast_S4096_S4096x1_0 : (⟨S4096, .f32⟩ : BufTy).Contents (Elt F) → (⟨S4096x1, .f32⟩ : BufTy).Contents (Elt F)),
    StableHlo.binary main_v35_2 main_v35_2 main_v40 (mulf : (⟨S4096x64, .f32⟩ : BufTy).Contents (Elt F) → (⟨S4096x64, .f32⟩ : BufTy).Contents (Elt F) → (⟨S4096x64, .f32⟩ : BufTy).Contents (Elt F)),
    StableHlo.nullary main_cst_5 (constant S_ .f32 0x00000000#32),
    StableHlo.binary main_v40 main_cst_5 main_v41 ((fun x v => Host.reduceAdd x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_v41 main_v42 (broadcastInDim S4096x1 ![0] bcast_S4096_S4096x1_0 : (⟨S4096, .f32⟩ : BufTy).Contents (Elt F) → (⟨S4096x1, .f32⟩ : BufTy).Contents (Elt F)),
    StableHlo.binary main_v39 main_v42 main_v43 (Host.divf : (⟨S4096x1, .f32⟩ : BufTy).Contents (Elt F) → (⟨S4096x1, .f32⟩ : BufTy).Contents (Elt F) → (⟨S4096x1, .f32⟩ : BufTy).Contents (Elt F)),
    StableHlo.nullary main_cst_6 (constant S_ .f32 0x48800000#32),
    StableHlo.nullary main_c_7 (constantI S_ 1 0#1),
    StableHlo.nullary main_c_8 (constantI S_ 32 0#32),
    StableHlo.unary main_v20 main_v44_0 id,
    StableHlo.unary main_v43 main_v44_1 id ]

/-- They touch TensorCore references only. -/
theorem midA_sub : (midA : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.unary_bufs_sub .., StableHlo.binary_bufs_sub .., StableHlo.nullary_bufs_sub .., StableHlo.binary_bufs_sub .., StableHlo.unary_bufs_sub .., StableHlo.binary_bufs_sub .., StableHlo.nullary_bufs_sub .., StableHlo.nullary_bufs_sub .., StableHlo.nullary_bufs_sub .., StableHlo.unary_bufs_sub .., StableHlo.unary_bufs_sub ..⟩

/-- None of them allocates. -/
theorem midA_fresh : (midA : List (HloOp τ sig (Elt F))).Forall fun op => op.fresh = ∅ :=
  StableHlo.forall_fresh_of_map rfl

/-- The references they write. -/
abbrev midA_W : List (Ref sig .tc) := [main_v36, main_v37, main_cst_4, main_v38, main_v39, main_v40, main_cst_5, main_v41, main_v42, main_v43, main_cst_6, main_c_7, main_c_8, main_v44_0, main_v44_1]

/-- They write those references only. -/
theorem midA_writes : (midA : List (HloOp τ sig (Elt F))).Forall fun op => op.writes ⊆ (midA_W.map (Proc.devRef (τ := τ) .tc)).toFinset :=
  StableHlo.forall_writes_sub_of_map rfl

set_option maxHeartbeats 4000000 in
/-- The rest of the second loop's carried values. -/
abbrev midB : List (HloOp τ sig (Elt F)) :=
  [ StableHlo.unary main_arg3 main_v44_2 id,
    StableHlo.unary main_v3 main_v44_3 id,
    StableHlo.unary main_cst_6 main_v44_4 id,
    StableHlo.unary main_c_8 main_v44_5 id,
    StableHlo.unary main_arg1 main_v44_6 id,
    StableHlo.unary main_c_7 main_v44_7 id ]

/-- They touch TensorCore references only. -/
theorem midB_sub : (midB : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub ..⟩

/-- None of them allocates. -/
theorem midB_fresh : (midB : List (HloOp τ sig (Elt F))).Forall fun op => op.fresh = ∅ :=
  StableHlo.forall_fresh_of_map rfl

/-- The references they write. -/
abbrev midB_W : List (Ref sig .tc) := [main_v44_2, main_v44_3, main_v44_4, main_v44_5, main_v44_6, main_v44_7]

/-- They write those references only. -/
theorem midB_writes : (midB : List (HloOp τ sig (Elt F))).Forall fun op => op.writes ⊆ (midB_W.map (Proc.devRef (τ := τ) .tc)).toFinset :=
  StableHlo.forall_writes_sub_of_map rfl

set_option maxHeartbeats 4000000 in
/-- The last step up to its clipping. -/
abbrev postA : List (HloOp τ sig (Elt F)) :=
  [ StableHlo.binary main_v44_6 main_v20 main_v45 ((fun l r => Host.dotGeneral dot_S4096x64_S4096x64x64_S4096x64_1_1_n_2_0_0 none l r) : (⟨S4096x64, .f32⟩ : BufTy).Contents (Elt F) → (⟨S4096x64x64, .f32⟩ : BufTy).Contents (Elt F) → (⟨S4096x64, .f32⟩ : BufTy).Contents (Elt F)),
    StableHlo.unary main_v43 main_v46 (broadcastInDim S4096x64 ![0, 1] bcast_S4096x1_S4096x64_0_1 : (⟨S4096x1, .f32⟩ : BufTy).Contents (Elt F) → (⟨S4096x64, .f32⟩ : BufTy).Contents (Elt F)),
    StableHlo.binary main_v44_6 main_v46 main_v47 (mulf : (⟨S4096x64, .f32⟩ : BufTy).Contents (Elt F) → (⟨S4096x64, .f32⟩ : BufTy).Contents (Elt F) → (⟨S4096x64, .f32⟩ : BufTy).Contents (Elt F)),
    StableHlo.binary main_v45 main_v47 main_v48 (subf : (⟨S4096x64, .f32⟩ : BufTy).Contents (Elt F) → (⟨S4096x64, .f32⟩ : BufTy).Contents (Elt F) → (⟨S4096x64, .f32⟩ : BufTy).Contents (Elt F)),
    StableHlo.binary main_arg3 main_v44_6 main_v49 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    StableHlo.nullary main_cst_9 (constant S_ .f32 0x3C23D70A#32),
    StableHlo.unary main_cst_9 main_v50 (broadcastInDim S4096x64 ![] bcast_S_S4096x64 : (⟨S_, .f32⟩ : BufTy).Contents (Elt F) → (⟨S4096x64, .f32⟩ : BufTy).Contents (Elt F)),
    StableHlo.binary main_v50 main_v49 main_v51 (mulf : (⟨S4096x64, .f32⟩ : BufTy).Contents (Elt F) → (⟨S4096x64, .f32⟩ : BufTy).Contents (Elt F) → (⟨S4096x64, .f32⟩ : BufTy).Contents (Elt F)),
    StableHlo.binary main_v48 main_v51 main_v52 (addf : (⟨S4096x64, .f32⟩ : BufTy).Contents (Elt F) → (⟨S4096x64, .f32⟩ : BufTy).Contents (Elt F) → (⟨S4096x64, .f32⟩ : BufTy).Contents (Elt F)),
    StableHlo.binary main_v52 main_v3 main_v53 (subf : (⟨S4096x64, .f32⟩ : BufTy).Contents (Elt F) → (⟨S4096x64, .f32⟩ : BufTy).Contents (Elt F) → (⟨S4096x64, .f32⟩ : BufTy).Contents (Elt F)),
    StableHlo.nullary main_cst_10 (constant S_ .f32 0x40000000#32),
    StableHlo.unary main_cst_10 main_v54 (broadcastInDim S4096x64 ![] bcast_S_S4096x64 : (⟨S_, .f32⟩ : BufTy).Contents (Elt F) → (⟨S4096x64, .f32⟩ : BufTy).Contents (Elt F)),
    StableHlo.binary main_v54 main_v53 main_v55 (mulf : (⟨S4096x64, .f32⟩ : BufTy).Contents (Elt F) → (⟨S4096x64, .f32⟩ : BufTy).Contents (Elt F) → (⟨S4096x64, .f32⟩ : BufTy).Contents (Elt F)),
    StableHlo.unary main_v43 main_v56 (broadcastInDim S4096x64 ![0, 1] bcast_S4096x1_S4096x64_0_1 : (⟨S4096x1, .f32⟩ : BufTy).Contents (Elt F) → (⟨S4096x64, .f32⟩ : BufTy).Contents (Elt F)),
    StableHlo.binary main_v55 main_v56 main_v57 (Host.divf : (⟨S4096x64, .f32⟩ : BufTy).Contents (Elt F) → (⟨S4096x64, .f32⟩ : BufTy).Contents (Elt F) → (⟨S4096x64, .f32⟩ : BufTy).Contents (Elt F)),
    StableHlo.nullary main_cst_11 (constant S_ .f32 0xBF000000#32),
    StableHlo.unary main_cst_11 main_v58 (broadcastInDim S4096x64 ![] bcast_S_S4096x64 : (⟨S_, .f32⟩ : BufTy).Contents (Elt F) → (⟨S4096x64, .f32⟩ : BufTy).Contents (Elt F)),
    StableHlo.binary main_v58 main_v57 main_v59 (mulf : (⟨S4096x64, .f32⟩ : BufTy).Contents (Elt F) → (⟨S4096x64, .f32⟩ : BufTy).Contents (Elt F) → (⟨S4096x64, .f32⟩ : BufTy).Contents (Elt F)) ]

/-- They touch TensorCore references only. -/
theorem postA_sub : (postA : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub ..⟩

/-- None of them allocates. -/
theorem postA_fresh : (postA : List (HloOp τ sig (Elt F))).Forall fun op => op.fresh = ∅ :=
  StableHlo.forall_fresh_of_map rfl

/-- The references they write. -/
abbrev postA_W : List (Ref sig .tc) := [main_v45, main_v46, main_v47, main_v48, main_v49, main_cst_9, main_v50, main_v51, main_v52, main_v53, main_cst_10, main_v54, main_v55, main_v56, main_v57, main_cst_11, main_v58, main_v59]

/-- They write those references only. -/
theorem postA_writes : (postA : List (HloOp τ sig (Elt F))).Forall fun op => op.writes ⊆ (postA_W.map (Proc.devRef (τ := τ) .tc)).toFinset :=
  StableHlo.forall_writes_sub_of_map rfl

set_option maxHeartbeats 4000000 in
/-- The last clipping at zero. -/
abbrev postB : List (HloOp τ sig (Elt F)) :=
  [ StableHlo.TRef.nullary (.of main_call2_cst : StableHlo.TRef sig ⟨S_, .f32⟩) (constant S_ .f32 0x00000000#32),
    StableHlo.TRef.unary (.of main_call2_cst : StableHlo.TRef sig ⟨S_, .f32⟩) (.of main_call2_v0 : StableHlo.TRef sig ⟨S4096x64, .f32⟩) (broadcastInDim S4096x64 ![] bcast_S_S4096x64),
    StableHlo.TRef.binary (.of main_v59 : StableHlo.TRef sig ⟨S4096x64, .f32⟩) (.of main_call2_v0 : StableHlo.TRef sig ⟨S4096x64, .f32⟩) (.of main_v60 : StableHlo.TRef sig ⟨S4096x64, .f32⟩) maximumf ]

/-- They touch TensorCore references only. -/
theorem postB_sub : (postB : List (HloOp τ sig (Elt F))).Forall fun op => op.bufs ⊆ StableHlo.tcRefs τ sig :=
  ⟨StableHlo.nullary_bufs_sub .., StableHlo.unary_bufs_sub .., StableHlo.binary_bufs_sub ..⟩

/-- None of them allocates. -/
theorem postB_fresh : (postB : List (HloOp τ sig (Elt F))).Forall fun op => op.fresh = ∅ :=
  StableHlo.forall_fresh_of_map rfl

/-- The references they write. -/
abbrev postB_W : List (Ref sig .tc) := [main_call2_cst, main_call2_v0, main_v60]

/-- They write those references only. -/
theorem postB_writes : (postB : List (HloOp τ sig (Elt F))).Forall fun op => op.writes ⊆ (postB_W.map (Proc.devRef (τ := τ) .tc)).toFinset :=
  StableHlo.forall_writes_sub_of_map rfl

set_option maxHeartbeats 4000000 in
/-- The final scaling by one. -/
abbrev postC : List (HloOp τ sig (Elt F)) :=
  [ StableHlo.nullary main_cst_12 (constant S_ .f32 0x3F800000#32),
    StableHlo.unary main_cst_12 main_v61 (broadcastInDim S4096x64 ![] bcast_S_S4096x64 : (⟨S_, .f32⟩ : BufTy).Contents (Elt F) → (⟨S4096x64, .f32⟩ : BufTy).Contents (Elt F)),
    StableHlo.binary main_v61 main_v60 main_v62 (mulf : (⟨S4096x64, .f32⟩ : BufTy).Contents (Elt F) → (⟨S4096x64, .f32⟩ : BufTy).Contents (Elt F) → (⟨S4096x64, .f32⟩ : BufTy).Contents (Elt F)) ]

/-- They touch TensorCore references only. -/
theorem postC_sub : (postC : List (HloOp τ sig (Elt F))).Forall fun op => op.bufs ⊆ StableHlo.tcRefs τ sig :=
  ⟨StableHlo.nullary_bufs_sub .., StableHlo.unary_bufs_sub .., StableHlo.binary_bufs_sub ..⟩

/-- None of them allocates. -/
theorem postC_fresh : (postC : List (HloOp τ sig (Elt F))).Forall fun op => op.fresh = ∅ :=
  StableHlo.forall_fresh_of_map rfl

/-- The references they write. -/
abbrev postC_W : List (Ref sig .tc) := [main_cst_12, main_v61, main_v62]

/-- They write those references only. -/
theorem postC_writes : (postC : List (HloOp τ sig (Elt F))).Forall fun op => op.writes ⊆ (postC_W.map (Proc.devRef (τ := τ) .tc)).toFinset :=
  StableHlo.forall_writes_sub_of_map rfl

set_option maxHeartbeats 4000000 in
/-- One step of the power method. -/
abbrev w0A : List (HloOp τ sig (Elt F)) :=
  [ StableHlo.binary main_v35_0 main_v35_2 main_while0b_v63 ((fun l r => Host.dotGeneral dot_S4096x64x64_S4096x64_S4096x64_2_1_1_n_0_0 none l r) : (⟨S4096x64x64, .f32⟩ : BufTy).Contents (Elt F) → (⟨S4096x64, .f32⟩ : BufTy).Contents (Elt F) → (⟨S4096x64, .f32⟩ : BufTy).Contents (Elt F)),
    StableHlo.unary main_while0b_v63 main_while0b_v64 (Host.absf : (⟨S4096x64, .f32⟩ : BufTy).Contents (Elt F) → (⟨S4096x64, .f32⟩ : BufTy).Contents (Elt F)),
    StableHlo.nullary main_while0b_cst_15 (constant S_ .f32 0xFF800000#32),
    StableHlo.binary main_while0b_v64 main_while0b_cst_15 main_while0b_v65 ((fun x v => Host.reduce FloatOps.maximumf x v reducesTo_S4096x64_S4096_d1 h_S_) : (⟨S4096x64, .f32⟩ : BufTy).Contents (Elt F) → (⟨S_, .f32⟩ : BufTy).Contents (Elt F) → (⟨S4096, .f32⟩ : BufTy).Contents (Elt F)),
    StableHlo.unary main_while0b_v65 main_while0b_v66 (broadcastInDim S4096x1 ![0] bcast_S4096_S4096x1_0 : (⟨S4096, .f32⟩ : BufTy).Contents (Elt F) → (⟨S4096x1, .f32⟩ : BufTy).Contents (Elt F)),
    StableHlo.unary main_while0b_v66 main_while0b_v67 (broadcastInDim S4096x64 ![0, 1] bcast_S4096x1_S4096x64_0_1 : (⟨S4096x1, .f32⟩ : BufTy).Contents (Elt F) → (⟨S4096x64, .f32⟩ : BufTy).Contents (Elt F)),
    StableHlo.binary main_while0b_v63 main_while0b_v67 main_while0b_v68 (Host.divf : (⟨S4096x64, .f32⟩ : BufTy).Contents (Elt F) → (⟨S4096x64, .f32⟩ : BufTy).Contents (Elt F) → (⟨S4096x64, .f32⟩ : BufTy).Contents (Elt F)),
    StableHlo.nullary main_while0b_c_16 (constantI S_ 32 1#32),
    StableHlo.binary main_v35_1 main_while0b_c_16 main_while0b_v69 (addi : (⟨S_, .i32⟩ : BufTy).Contents (Elt F) → (⟨S_, .i32⟩ : BufTy).Contents (Elt F) → (⟨S_, .i32⟩ : BufTy).Contents (Elt F)),
    StableHlo.unary main_while0b_v69 main_v35_1 id,
    StableHlo.unary main_while0b_v68 main_v35_2 id ]

/-- They touch TensorCore references only. -/
theorem w0A_sub : (w0A : List (HloOp τ sig (Elt F))).Forall fun op => op.bufs ⊆ StableHlo.tcRefs τ sig :=
  ⟨StableHlo.binary_bufs_sub .., StableHlo.unary_bufs_sub .., StableHlo.nullary_bufs_sub .., StableHlo.binary_bufs_sub .., StableHlo.unary_bufs_sub .., StableHlo.unary_bufs_sub .., StableHlo.binary_bufs_sub .., StableHlo.nullary_bufs_sub .., StableHlo.binary_bufs_sub .., StableHlo.unary_bufs_sub .., StableHlo.unary_bufs_sub ..⟩

/-- None of them allocates. -/
theorem w0A_fresh : (w0A : List (HloOp τ sig (Elt F))).Forall fun op => op.fresh = ∅ :=
  StableHlo.forall_fresh_of_map rfl

/-- The references they write. -/
abbrev w0A_W : List (Ref sig .tc) := [main_while0b_v63, main_while0b_v64, main_while0b_cst_15, main_while0b_v65, main_while0b_v66, main_while0b_v67, main_while0b_v68, main_while0b_c_16, main_while0b_v69, main_v35_1, main_v35_2]

/-- They write those references only. -/
theorem w0A_writes : (w0A : List (HloOp τ sig (Elt F))).Forall fun op => op.writes ⊆ (w0A_W.map (Proc.devRef (τ := τ) .tc)).toFinset :=
  StableHlo.forall_writes_sub_of_map rfl

set_option maxHeartbeats 4000000 in
/-- One step of the descent up to its clipping. -/
abbrev w1A : List (HloOp τ sig (Elt F)) :=
  [ StableHlo.binary main_v44_6 main_v44_0 main_while1b_v63 ((fun l r => Host.dotGeneral dot_S4096x64_S4096x64x64_S4096x64_1_1_n_2_0_0 none l r) : (⟨S4096x64, .f32⟩ : BufTy).Contents (Elt F) → (⟨S4096x64x64, .f32⟩ : BufTy).Contents (Elt F) → (⟨S4096x64, .f32⟩ : BufTy).Contents (Elt F)),
    StableHlo.unary main_v44_1 main_while1b_v64 (broadcastInDim S4096x64 ![0, 1] bcast_S4096x1_S4096x64_0_1 : (⟨S4096x1, .f32⟩ : BufTy).Contents (Elt F) → (⟨S4096x64, .f32⟩ : BufTy).Contents (Elt F)),
    StableHlo.binary main_v44_6 main_while1b_v64 main_while1b_v65 (mulf : (⟨S4096x64, .f32⟩ : BufTy).Contents (Elt F) → (⟨S4096x64, .f32⟩ : BufTy).Contents (Elt F) → (⟨S4096x64, .f32⟩ : BufTy).Contents (Elt F)),
    StableHlo.binary main_while1b_v63 main_while1b_v65 main_while1b_v66 (subf : (⟨S4096x64, .f32⟩ : BufTy).Contents (Elt F) → (⟨S4096x64, .f32⟩ : BufTy).Contents (Elt F) → (⟨S4096x64, .f32⟩ : BufTy).Contents (Elt F)),
    StableHlo.binary main_v44_2 main_v44_6 main_while1b_v67 ((fun l r => Host.dotGeneral dot_S4096x4096_S4096x64_S4096x64_1_0_0_1_n_n none l r) : (⟨S4096x4096, .f32⟩ : BufTy).Contents (Elt F) → (⟨S4096x64, .f32⟩ : BufTy).Contents (Elt F) → (⟨S4096x64, .f32⟩ : BufTy).Contents (Elt F)),
    StableHlo.nullary main_while1b_cst_20 (constant S_ .f32 0x3C23D70A#32),
    StableHlo.unary main_while1b_cst_20 main_while1b_v68 (broadcastInDim S4096x64 ![] bcast_S_S4096x64 : (⟨S_, .f32⟩ : BufTy).Contents (Elt F) → (⟨S4096x64, .f32⟩ : BufTy).Contents (Elt F)),
    StableHlo.binary main_while1b_v68 main_while1b_v67 main_while1b_v69 (mulf : (⟨S4096x64, .f32⟩ : BufTy).Contents (Elt F) → (⟨S4096x64, .f32⟩ : BufTy).Contents (Elt F) → (⟨S4096x64, .f32⟩ : BufTy).Contents (Elt F)),
    StableHlo.binary main_while1b_v66 main_while1b_v69 main_while1b_v70 (addf : (⟨S4096x64, .f32⟩ : BufTy).Contents (Elt F) → (⟨S4096x64, .f32⟩ : BufTy).Contents (Elt F) → (⟨S4096x64, .f32⟩ : BufTy).Contents (Elt F)),
    StableHlo.binary main_while1b_v70 main_v44_3 main_while1b_v71 (subf : (⟨S4096x64, .f32⟩ : BufTy).Contents (Elt F) → (⟨S4096x64, .f32⟩ : BufTy).Contents (Elt F) → (⟨S4096x64, .f32⟩ : BufTy).Contents (Elt F)),
    StableHlo.nullary main_while1b_cst_21 (constant S_ .f32 0x40000000#32),
    StableHlo.unary main_while1b_cst_21 main_while1b_v72 (broadcastInDim S4096x64 ![] bcast_S_S4096x64 : (⟨S_, .f32⟩ : BufTy).Contents (Elt F) → (⟨S4096x64, .f32⟩ : BufTy).Contents (Elt F)),
    StableHlo.binary main_while1b_v72 main_while1b_v71 main_while1b_v73 (mulf : (⟨S4096x64, .f32⟩ : BufTy).Contents (Elt F) → (⟨S4096x64, .f32⟩ : BufTy).Contents (Elt F) → (⟨S4096x64, .f32⟩ : BufTy).Contents (Elt F)),
    StableHlo.unary main_v44_1 main_while1b_v74 (broadcastInDim S4096x64 ![0, 1] bcast_S4096x1_S4096x64_0_1 : (⟨S4096x1, .f32⟩ : BufTy).Contents (Elt F) → (⟨S4096x64, .f32⟩ : BufTy).Contents (Elt F)),
    StableHlo.binary main_while1b_v73 main_while1b_v74 main_while1b_v75 (Host.divf : (⟨S4096x64, .f32⟩ : BufTy).Contents (Elt F) → (⟨S4096x64, .f32⟩ : BufTy).Contents (Elt F) → (⟨S4096x64, .f32⟩ : BufTy).Contents (Elt F)),
    StableHlo.nullary main_while1b_cst_22 (constant S_ .f32 0xBF000000#32),
    StableHlo.unary main_while1b_cst_22 main_while1b_v76 (broadcastInDim S4096x64 ![] bcast_S_S4096x64 : (⟨S_, .f32⟩ : BufTy).Contents (Elt F) → (⟨S4096x64, .f32⟩ : BufTy).Contents (Elt F)),
    StableHlo.binary main_while1b_v76 main_while1b_v75 main_while1b_v77 (mulf : (⟨S4096x64, .f32⟩ : BufTy).Contents (Elt F) → (⟨S4096x64, .f32⟩ : BufTy).Contents (Elt F) → (⟨S4096x64, .f32⟩ : BufTy).Contents (Elt F)) ]

/-- They touch TensorCore references only. -/
theorem w1A_sub : (w1A : List (HloOp τ sig (Elt F))).Forall fun op => op.bufs ⊆ StableHlo.tcRefs τ sig :=
  ⟨StableHlo.binary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub ..⟩

/-- None of them allocates. -/
theorem w1A_fresh : (w1A : List (HloOp τ sig (Elt F))).Forall fun op => op.fresh = ∅ :=
  StableHlo.forall_fresh_of_map rfl

/-- The references they write. -/
abbrev w1A_W : List (Ref sig .tc) := [main_while1b_v63, main_while1b_v64, main_while1b_v65, main_while1b_v66, main_while1b_v67, main_while1b_cst_20, main_while1b_v68, main_while1b_v69, main_while1b_v70, main_while1b_v71, main_while1b_cst_21, main_while1b_v72, main_while1b_v73, main_while1b_v74, main_while1b_v75, main_while1b_cst_22, main_while1b_v76, main_while1b_v77]

/-- They write those references only. -/
theorem w1A_writes : (w1A : List (HloOp τ sig (Elt F))).Forall fun op => op.writes ⊆ (w1A_W.map (Proc.devRef (τ := τ) .tc)).toFinset :=
  StableHlo.forall_writes_sub_of_map rfl

set_option maxHeartbeats 4000000 in
/-- The clipping at zero. -/
abbrev w1B : List (HloOp τ sig (Elt F)) :=
  [ StableHlo.TRef.nullary (.of main_while1b_call0_cst : StableHlo.TRef sig ⟨S_, .f32⟩) (constant S_ .f32 0x00000000#32),
    StableHlo.TRef.unary (.of main_while1b_call0_cst : StableHlo.TRef sig ⟨S_, .f32⟩) (.of main_while1b_call0_v0 : StableHlo.TRef sig ⟨S4096x64, .f32⟩) (broadcastInDim S4096x64 ![] bcast_S_S4096x64),
    StableHlo.TRef.binary (.of main_while1b_v77 : StableHlo.TRef sig ⟨S4096x64, .f32⟩) (.of main_while1b_call0_v0 : StableHlo.TRef sig ⟨S4096x64, .f32⟩) (.of main_while1b_v78 : StableHlo.TRef sig ⟨S4096x64, .f32⟩) maximumf ]

/-- They touch TensorCore references only. -/
theorem w1B_sub : (w1B : List (HloOp τ sig (Elt F))).Forall fun op => op.bufs ⊆ StableHlo.tcRefs τ sig :=
  ⟨StableHlo.nullary_bufs_sub .., StableHlo.unary_bufs_sub .., StableHlo.binary_bufs_sub ..⟩

/-- None of them allocates. -/
theorem w1B_fresh : (w1B : List (HloOp τ sig (Elt F))).Forall fun op => op.fresh = ∅ :=
  StableHlo.forall_fresh_of_map rfl

/-- The references they write. -/
abbrev w1B_W : List (Ref sig .tc) := [main_while1b_call0_cst, main_while1b_call0_v0, main_while1b_v78]

/-- They write those references only. -/
theorem w1B_writes : (w1B : List (HloOp τ sig (Elt F))).Forall fun op => op.writes ⊆ (w1B_W.map (Proc.devRef (τ := τ) .tc)).toFinset :=
  StableHlo.forall_writes_sub_of_map rfl

set_option maxHeartbeats 4000000 in
/-- The mean squared change. -/
abbrev w1C : List (HloOp τ sig (Elt F)) :=
  [ StableHlo.binary main_while1b_v78 main_v44_6 main_while1b_v79 (subf : (⟨S4096x64, .f32⟩ : BufTy).Contents (Elt F) → (⟨S4096x64, .f32⟩ : BufTy).Contents (Elt F) → (⟨S4096x64, .f32⟩ : BufTy).Contents (Elt F)),
    StableHlo.binary main_while1b_v79 main_while1b_v79 main_while1b_v80 (mulf : (⟨S4096x64, .f32⟩ : BufTy).Contents (Elt F) → (⟨S4096x64, .f32⟩ : BufTy).Contents (Elt F) → (⟨S4096x64, .f32⟩ : BufTy).Contents (Elt F)),
    StableHlo.nullary main_while1b_cst_23 (constant S_ .f32 0x00000000#32),
    StableHlo.binary main_while1b_v80 main_while1b_cst_23 main_while1b_v81 ((fun x v => Host.reduceAdd x v reducesTo_S4096x64_S_d0_1 h_S_) : (⟨S4096x64, .f32⟩ : BufTy).Contents (Elt F) → (⟨S_, .f32⟩ : BufTy).Contents (Elt F) → (⟨S_, .f32⟩ : BufTy).Contents (Elt F)),
    StableHlo.binary main_while1b_v81 main_v44_4 main_while1b_v82 (Host.divf : (⟨S_, .f32⟩ : BufTy).Contents (Elt F) → (⟨S_, .f32⟩ : BufTy).Contents (Elt F) → (⟨S_, .f32⟩ : BufTy).Contents (Elt F)) ]

/-- They touch TensorCore references only. -/
theorem w1C_sub : (w1C : List (HloOp τ sig (Elt F))).Forall fun op => op.bufs ⊆ StableHlo.tcRefs τ sig :=
  ⟨StableHlo.binary_bufs_sub .., StableHlo.binary_bufs_sub .., StableHlo.nullary_bufs_sub .., StableHlo.binary_bufs_sub .., StableHlo.binary_bufs_sub ..⟩

/-- None of them allocates. -/
theorem w1C_fresh : (w1C : List (HloOp τ sig (Elt F))).Forall fun op => op.fresh = ∅ :=
  StableHlo.forall_fresh_of_map rfl

/-- The references they write. -/
abbrev w1C_W : List (Ref sig .tc) := [main_while1b_v79, main_while1b_v80, main_while1b_cst_23, main_while1b_v81, main_while1b_v82]

/-- They write those references only. -/
theorem w1C_writes : (w1C : List (HloOp τ sig (Elt F))).Forall fun op => op.writes ⊆ (w1C_W.map (Proc.devRef (τ := τ) .tc)).toFinset :=
  StableHlo.forall_writes_sub_of_map rfl

set_option maxHeartbeats 4000000 in
/-- The choice between the old and the new factors. -/
abbrev w1D : List (HloOp τ sig (Elt F)) :=
  [ StableHlo.TRef.ternary (.of main_v44_7 : StableHlo.TRef sig ⟨S_, .i1⟩) (.of main_v44_6 : StableHlo.TRef sig ⟨S4096x64, .f32⟩) (.of main_while1b_v78 : StableHlo.TRef sig ⟨S4096x64, .f32⟩) (.of main_while1b_v83 : StableHlo.TRef sig ⟨S4096x64, .f32⟩) (fun p a b => select (broadcastInDim S4096x64 ![] bcast_S_S4096x64 p) a b) ]

/-- They touch TensorCore references only. -/
theorem w1D_sub : (w1D : List (HloOp τ sig (Elt F))).Forall fun op => op.bufs ⊆ StableHlo.tcRefs τ sig :=
  StableHlo.ternary_bufs_sub ..

/-- None of them allocates. -/
theorem w1D_fresh : (w1D : List (HloOp τ sig (Elt F))).Forall fun op => op.fresh = ∅ :=
  StableHlo.forall_fresh_of_map rfl

/-- The references they write. -/
abbrev w1D_W : List (Ref sig .tc) := [main_while1b_v83]

/-- They write those references only. -/
theorem w1D_writes : (w1D : List (HloOp τ sig (Elt F))).Forall fun op => op.writes ⊆ (w1D_W.map (Proc.devRef (τ := τ) .tc)).toFinset :=
  StableHlo.forall_writes_sub_of_map rfl

set_option maxHeartbeats 4000000 in
/-- The stopping test and the counter. -/
abbrev w1E : List (HloOp τ sig (Elt F)) :=
  [ StableHlo.nullary main_while1b_cst_24 (constant S_ .f32 0x322BCC77#32),
    StableHlo.binary main_while1b_v82 main_while1b_cst_24 main_while1b_v84 (cmpf .ole : (⟨S_, .f32⟩ : BufTy).Contents (Elt F) → (⟨S_, .f32⟩ : BufTy).Contents (Elt F) → (⟨S_, .i1⟩ : BufTy).Contents (Elt F)),
    StableHlo.binary main_v44_7 main_while1b_v84 main_while1b_v85 (ori : (⟨S_, .i1⟩ : BufTy).Contents (Elt F) → (⟨S_, .i1⟩ : BufTy).Contents (Elt F) → (⟨S_, .i1⟩ : BufTy).Contents (Elt F)),
    StableHlo.nullary main_while1b_c_25 (constantI S_ 32 1#32),
    StableHlo.binary main_v44_5 main_while1b_c_25 main_while1b_v86 (addi : (⟨S_, .i32⟩ : BufTy).Contents (Elt F) → (⟨S_, .i32⟩ : BufTy).Contents (Elt F) → (⟨S_, .i32⟩ : BufTy).Contents (Elt F)),
    StableHlo.unary main_while1b_v86 main_v44_5 id,
    StableHlo.unary main_while1b_v83 main_v44_6 id,
    StableHlo.unary main_while1b_v85 main_v44_7 id ]

/-- They touch TensorCore references only. -/
theorem w1E_sub : (w1E : List (HloOp τ sig (Elt F))).Forall fun op => op.bufs ⊆ StableHlo.tcRefs τ sig :=
  ⟨StableHlo.nullary_bufs_sub .., StableHlo.binary_bufs_sub .., StableHlo.binary_bufs_sub .., StableHlo.nullary_bufs_sub .., StableHlo.binary_bufs_sub .., StableHlo.unary_bufs_sub .., StableHlo.unary_bufs_sub .., StableHlo.unary_bufs_sub ..⟩

/-- None of them allocates. -/
theorem w1E_fresh : (w1E : List (HloOp τ sig (Elt F))).Forall fun op => op.fresh = ∅ :=
  StableHlo.forall_fresh_of_map rfl

/-- The references they write. -/
abbrev w1E_W : List (Ref sig .tc) := [main_while1b_cst_24, main_while1b_v84, main_while1b_v85, main_while1b_c_25, main_while1b_v86, main_v44_5, main_v44_6, main_v44_7]

/-- They write those references only. -/
theorem w1E_writes : (w1E : List (HloOp τ sig (Elt F))).Forall fun op => op.writes ⊆ (w1E_W.map (Proc.devRef (τ := τ) .tc)).toFinset :=
  StableHlo.forall_writes_sub_of_map rfl

/-- The first half of the program as its pieces. -/
theorem part0_chain (c : Dev nD) : main_part0 (F := F) c = (Pipeline.chainK
  [ StableHlo.seq preOps, HostLoop.enter 0 ] (StableHlo.seq midA) : Prog (TpuEff nD τ sig (Elt F) (HostLoop.Sig (Pipeline.Sig Λ₀ (Fin 0) fun p => (pcfgs (F := F) p).Adm) 2) .tc) PUnit) := by
  unfold Pipeline.chainK
  chain_rfl

/-- The second half of the program as its pieces. -/
theorem part1_chain (c : Dev nD) : main_part1 (F := F) c = (Pipeline.chain
  [ StableHlo.seq midB, HostLoop.enter 1, StableHlo.seq postA, StableHlo.seq postB, StableHlo.seq postC ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

/-- The whole program as its pieces. -/
theorem main_chain (c : Dev nD) : main (F := F) c = (Pipeline.chain
  [ StableHlo.seq preOps, HostLoop.enter 0, StableHlo.seq midA, StableHlo.seq midB, HostLoop.enter 1,
    StableHlo.seq postA, StableHlo.seq postB, StableHlo.seq postC ] : Prog (TpuEff nD τ sig (Elt F) (HostLoop.Sig (Pipeline.Sig Λ₀ (Fin 0) fun p => (pcfgs (F := F) p).Adm) 2) .tc) PUnit) := by
  show (main_part0 (F := F) c >>= fun _ => main_part1 (F := F) c) = _
  rewrite [part1_chain, part0_chain, Pipeline.chainK_bind_chain]
  chain_rfl

/-- The first loop's body as its pieces. -/
theorem body0_chain : main_while0_body (F := F) = (Pipeline.chain [ StableHlo.seq w0A ] : Prog (TpuEff nD τ sig (Elt F) (HostLoop.Sig (Pipeline.Sig Λ₀ (Fin 0) fun p => (pcfgs (F := F) p).Adm) 2) .tc) PUnit) := by
  rewrite [StableHlo.chain_seq_cons]
  chain_rfl

/-- The second loop's body as its pieces. -/
theorem body1_chain : main_while1_body (F := F) = (Pipeline.chain
  [ StableHlo.seq w1A, StableHlo.seq w1B, StableHlo.seq w1C, StableHlo.seq w1D, StableHlo.seq w1E ] : Prog (TpuEff nD τ sig (Elt F) (HostLoop.Sig (Pipeline.Sig Λ₀ (Fin 0) fun p => (pcfgs (F := F) p).Adm) 2) .tc) PUnit) := by
  rewrite [StableHlo.chain_seq_cons, Pipeline.chain_cons, StableHlo.chain_seq_cons, Pipeline.chain_cons, StableHlo.chain_seq_cons]
  chain_rfl

end Cert.Proof.RI

end
-- ==== Proof.RI.Run.lean ====
module

public import proofs.«01_k».proof.Proof.RI.Ops
public import Idealize.ShloMosaic.Lib.Pipeline.Regions
public import Idealize.ShloMosaic.Lib.StableHlo.RunLoop
public import Idealize.ShloMosaic.Lib.StableHlo.RunRead
public import Idealize.ShloMosaic.Lib.StableHlo.RunHlo
public import Idealize.ShloMosaic.Lib.Scf.ExitTest
public import Idealize.ShloMosaic.Lib.Scf.Counter

@[expose] public section

set_option maxRecDepth 8192

noncomputable section

namespace Cert.Proof.RI

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (CSeg Ticket PCfg ucRefs unscopedBufs_held sub_ucRefs)

variable {F : FTy → Type} [FloatOps F]

/-! ## The two loops' conditions -/

/-- The first condition's operations: its bound, and the counter compared with it. -/
abbrev condA : List (HloOp τ sig (Elt F)) :=
  [ StableHlo.nullary main_while0c_c_15 (constantI S_ 32 32#32),
    StableHlo.binary main_v35_1 main_while0c_c_15 main_while0c_v63 (cmpi .slt) ]

/-- The second condition's operations. -/
abbrev condB : List (HloOp τ sig (Elt F)) :=
  [ StableHlo.nullary main_while1c_c_20 (constantI S_ 32 19#32),
    StableHlo.binary main_v44_5 main_while1c_c_20 main_while1c_v63 (cmpi .slt) ]

/-- The references the first condition writes. -/
abbrev condA_W : List (Ref sig .tc) := [main_while0c_c_15, main_while0c_v63]

/-- The references the second condition writes. -/
abbrev condB_W : List (Ref sig .tc) := [main_while1c_c_20, main_while1c_v63]

/-- The first condition writes those only. -/
theorem condA_writes : (condA : List (HloOp τ sig (Elt F))).Forall fun op => op.writes ⊆ (condA_W.map (Proc.devRef (τ := τ) .tc)).toFinset :=
  StableHlo.forall_writes_sub_of_map rfl

/-- The second condition writes those only. -/
theorem condB_writes : (condB : List (HloOp τ sig (Elt F))).Forall fun op => op.writes ⊆ (condB_W.map (Proc.devRef (τ := τ) .tc)).toFinset :=
  StableHlo.forall_writes_sub_of_map rfl

/-- The pieces before the first loop, in it, between the loops, in the second, and after it. -/
abbrev before : List (List (HloOp τ sig (Elt F))) := [preOps]
/-- The operations of the first loop's body. -/
abbrev bodyA : List (List (HloOp τ sig (Elt F))) := [w0A]
/-- The operations between the two loops. -/
abbrev between : List (List (HloOp τ sig (Elt F))) := [midA, midB]
/-- The operations of the second loop's body. -/
abbrev bodyB : List (List (HloOp τ sig (Elt F))) := [w1A, w1B, w1C, w1D, w1E]
/-- The operations behind the second loop. -/
abbrev behind : List (List (HloOp τ sig (Elt F))) := [postA, postB, postC]

/-- A piece with the two facts the run asks for goes before a plain list. -/
theorem plain_cons {ops : List (HloOp τ sig (Elt F))} {rest : List (List (HloOp τ sig (Elt F)))}
    (hs : ops.Forall fun op => op.bufs ⊆ tcRefs τ sig) (hf : ops.Forall fun op => op.fresh = ∅) (h : Plain rest) : Plain (ops :: rest) :=
  .cons hs h (hf := List.forall_iff_forall_mem.mp hf)

/-- The pieces of each list touch TensorCore references only and allocate nothing. -/
theorem before_plain : Plain (before (F := F)) := plain_cons preOps_sub preOps_fresh .nil
/-- The first loop's body is plain. -/
theorem bodyA_plain : Plain (bodyA (F := F)) := plain_cons w0A_sub w0A_fresh .nil
/-- The stretch between the loops is plain. -/
theorem between_plain : Plain (between (F := F)) := plain_cons midA_sub midA_fresh (plain_cons midB_sub midB_fresh .nil)
/-- The second loop's body is plain. -/
theorem bodyB_plain : Plain (bodyB (F := F)) :=
  plain_cons w1A_sub w1A_fresh (plain_cons w1B_sub w1B_fresh (plain_cons w1C_sub w1C_fresh (plain_cons w1D_sub w1D_fresh (plain_cons w1E_sub w1E_fresh .nil))))
/-- The stretch behind the loops is plain. -/
theorem behind_plain : Plain (behind (F := F)) :=
  plain_cons postA_sub postA_fresh (plain_cons postB_sub postB_fresh (plain_cons postC_sub postC_fresh .nil))

variable (m : (ℓ : Loc nD τ sig) → Buf (Elt F) ℓ) (ρ : Dev nD → PrngReg)

/-- The contents at the first loop's entry. -/
abbrev W0 (c : Dev nD) : Valuation τ sig (Elt F) := afterL before (launchContents m c)
/-- The contents before the `k`-th run of the first condition. -/
abbrev atA (k : ℕ) (c : Dev nD) : Valuation τ sig (Elt F) := atTrip condA bodyA (W0 m) k c
/-- The contents at the second loop's entry. -/
abbrev W1 (c : Dev nD) : Valuation τ sig (Elt F) := afterL between (after condA (atA m 32 c))
/-- The contents before the `k`-th run of the second condition. -/
abbrev atB (k : ℕ) (c : Dev nD) : Valuation τ sig (Elt F) := atTrip condB bodyB (W1 m) k c
/-- The contents at the end. -/
abbrev W2 (c : Dev nD) : Valuation τ sig (Elt F) := afterL behind (after condB (atB m 19 c))

/-! ## The counters -/

/-- One step of the power method adds one to its counter. -/
theorem ctrA_step (X : Valuation τ sig (Elt F)) :
    after w0A X (Proc.devRef .tc main_v35_1) = addi (X (Proc.devRef .tc main_v35_1)) (constantI S_ 32 1#32) := by
  after_results
  rfl

/-- One step of the descent adds one to its counter. -/
theorem ctrB_step (X : Valuation τ sig (Elt F)) :
    after w1E X (Proc.devRef .tc main_v44_5) = addi (X (Proc.devRef .tc main_v44_5)) (constantI S_ 32 1#32) := by
  after_results
  rfl

/-- The first counter starts at zero. -/
theorem ctrA_entry (c : Dev nD) : W0 m c (Proc.devRef .tc main_v35_1) = fun _ => (0#32 : BitVec 32) := by
  simp only [afterL_cons, afterL_nil]
  after_reads_simp
  rfl

/-- The second counter starts at zero. -/
theorem ctrB_entry (c : Dev nD) : W1 m c (Proc.devRef .tc main_v44_5) = fun _ => (0#32 : BitVec 32) := by
  simp only [afterL_cons, afterL_nil]
  generalize after condA (atA m 32 c) = X
  after_reads_simp
  rfl

/-- The first counter before the `k`-th condition. -/
theorem ctrA (c : Dev nD) : ∀ k, atA m k c (Proc.devRef .tc main_v35_1) = fun _ => Scf.iv 0#32 1#32 k
  | 0 => by rw [show atA m 0 c = W0 m c from rfl, ctrA_entry, Scf.iv_zero]
  | k + 1 => by
    rw [show atA m (k + 1) c = afterL bodyA (after condA (atA m k c)) from rfl]
    simp only [afterL_cons, afterL_nil]
    rw [ctrA_step, after_of_writes_sub condA _ condA_writes (by decide +kernel), ctrA c k, Scf.iv_succ]
    rfl

/-- The second counter before the `k`-th condition. -/
theorem ctrB (c : Dev nD) : ∀ k, atB m k c (Proc.devRef .tc main_v44_5) = fun _ => Scf.iv 0#32 1#32 k
  | 0 => by rw [show atB m 0 c = W1 m c from rfl, ctrB_entry, Scf.iv_zero]
  | k + 1 => by
    rw [show atB m (k + 1) c = afterL bodyB (after condB (atB m k c)) from rfl]
    simp only [afterL_cons, afterL_nil]
    rw [ctrB_step, after_of_writes_sub w1D _ w1D_writes (by decide +kernel), after_of_writes_sub w1C _ w1C_writes (by decide +kernel),
      after_of_writes_sub w1B _ w1B_writes (by decide +kernel), after_of_writes_sub w1A _ w1A_writes (by decide +kernel),
      after_of_writes_sub condB _ condB_writes (by decide +kernel), ctrB c k, Scf.iv_succ]
    rfl

/-! ## The run -/

local notation "𝕄" => MT nD τ sig Unit (Elt F) ℕ (Option PUnit) ℕ

/-- No pipeline is admitted, no ticket held, no counter levelled. -/
abbrev adm : (p : Fin 0) → (pcfgs (F := F) p).Adm := fun p => p.elim0
/-- There are no tickets: no region runs in this program. -/
abbrev tk : Fin 0 → Ticket (Ix := Unit) (Name := ℕ) (U := Option PUnit) (Lvl := ℕ) (nD := nD) (τ := τ) (pcfgs (F := F)) adm := fun j => j.elim0
/-- No semaphore has a level to wait for. -/
abbrev L₀ : GSem nD τ sig → Finset Unit := fun _ => ∅
/-- Every level is zero. -/
abbrev lv₀ : GSem nD τ sig → Unit → ℕ := fun _ _ => 0

/-- There is no staging cell to tell apart. -/
theorem cell_inj : Function.Injective (Pipeline.cellOf (nD := nD) (τ := τ) (Pipeline.pin (pcfgs (F := F)) adm)) :=
  fun k => k.1.elim0

/-- What rides along beside the buffers. -/
abbrev Rw (c : Dev nD) : sProp 𝕄 := iprop(∃ W, owes (c : Thread nD τ) (0 : CellTallies nD τ sig Unit) W)

set_option backward.isDefEq.respectTransparency.types false in
/-- The first condition holds for 32 trips. -/
theorem condA_spec : LoopCond (Ix := Unit) (Name := ℕ) (U := Option PUnit) (Lvl := ℕ) (pcfgs (F := F)) defs₀ Variants.none loops Rw main_while0_cond condA bodyA (W0 m) 32 := by
  intro k hk c bd
  have hctr := ctrA m c k
  unfold main_while0_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atA m k c) main_v35_1 HostLoop.idx0)
        (HloOp.result _ (atA m k c) main_while0c_c_15 HostLoop.idx0) = 1#1) (k < 32)
    rw [nullary_result_ne _ _ _ _ (by decide), nullary_result, hctr]
    exact Scf.cmpi_slt_iv_ub_iff (lb := 0#32) (ub := 32#32) (st := 1#32) (by decide) (show k ≤ Scf.trips 0#32 32#32 1#32 from hk)
  isplitl [Hb]; · iexact Hb
  isplitl [Hh]
  · rw [after_cons, after_cons, after_nil]; iexact Hh
  iexact HR

set_option backward.isDefEq.respectTransparency.types false in
/-- The second condition holds for 19 trips. -/
theorem condB_spec : LoopCond (Ix := Unit) (Name := ℕ) (U := Option PUnit) (Lvl := ℕ) (pcfgs (F := F)) defs₀ Variants.none loops Rw main_while1_cond condB bodyB (W1 m) 19 := by
  intro k hk c bd
  have hctr := ctrB m c k
  unfold main_while1_cond
  rw [wp_bind]
  iintro ⟨Hb, Hh, HR⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atB m k c) main_v44_5 HostLoop.idx0)
        (HloOp.result _ (atB m k c) main_while1c_c_20 HostLoop.idx0) = 1#1) (k < 19)
    rw [nullary_result_ne _ _ _ _ (by decide), nullary_result, hctr]
    exact Scf.cmpi_slt_iv_ub_iff (lb := 0#32) (ub := 19#32) (st := 1#32) (by decide) (show k ≤ Scf.trips 0#32 19#32 1#32 from hk)
  isplitl [Hb]; · iexact Hb
  isplitl [Hh]
  · rw [after_cons, after_cons, after_nil]; iexact Hh
  iexact HR

/-- The program's segments. -/
def segs : List (CSeg (pcfgs (F := F)) adm defs₀ Variants.none L₀ lv₀ loops tk) :=
  segsOf _ _ _ _ _ _ _ _ Rw before before_plain (launchContents m)
    ++ loopSeg _ _ _ _ _ _ _ _ 0 main_while0_cond main_while0_body rfl condA bodyA bodyA_plain (by rw [body0_chain]; rfl) 32 (W0 m) Rw (condA_spec m)
      :: (segsOf _ _ _ _ _ _ _ _ Rw between between_plain (fun c => after condA (atA m 32 c))
    ++ loopSeg _ _ _ _ _ _ _ _ 1 main_while1_cond main_while1_body rfl condB bodyB bodyB_plain (by rw [body1_chain]; rfl) 19 (W1 m) Rw (condB_spec m)
      :: segsOf _ _ _ _ _ _ _ _ Rw behind behind_plain (fun c => after condB (atB m 19 c)))

/-- Their programs in order. -/
theorem segs_prog : (segs m).map CSeg.prog
    = (before.map fun ops => (seq ops : Prog _ PUnit)) ++ HostLoop.enter 0 :: ((between.map fun ops => (seq ops : Prog _ PUnit))
      ++ HostLoop.enter 1 :: behind.map fun ops => (seq ops : Prog _ PUnit)) := by
  unfold segs
  rw [List.map_append, List.map_cons, List.map_append, List.map_cons, segsOf_prog, segsOf_prog, segsOf_prog]
  rfl

/-- They follow one another from the launch to the end. -/
theorem segs_chains :
    CSeg.Chains (fun c => iprop(held (c : Thread nD τ) (ucRefs τ sig) (launchContents m c) ∗ Rw c)) (segs m)
      (fun c => iprop(held (c : Thread nD τ) (ucRefs τ sig) (W2 m c) ∗ Rw c)) := by
  unfold segs
  exact CSeg.Chains.append (segsOf_chains _ _ _ _ _ _ _ _ Rw before before_plain _)
    ⟨fun _ => .rfl, CSeg.Chains.append (segsOf_chains _ _ _ _ _ _ _ _ Rw between between_plain _) ⟨fun _ => .rfl, segsOf_chains _ _ _ _ _ _ _ _ Rw behind behind_plain _⟩⟩

/-- No semaphore of the program outlives a scope. -/
theorem sems_scoped (g : SemLoc sig) : g.isScoped .tc = true := by
  revert g; decide

/-- The program is its segments' programs in order. -/
theorem main_segs (c : Dev nD) : main (F := F) c = Pipeline.chain ((segs m).map CSeg.prog) := by
  rw [main_chain c, segs_prog]
  rfl

/-- The program runs to the end, every buffer at the fold of its operations and every counter at zero. -/
theorem run_reference : θ_run (defs (F := F)) (onTc (τ := τ) (main (F := F))) ⟨m, fun _ => 0, ρ⟩
    (fun r => (∀ (c : Dev nD) (b : Ref sig .tc), (Proc.devRef .tc b : DevRef τ sig).isScoped = false →
      r.2.mem ((c.tc : Thread nD τ).loc b) = W2 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cell_inj defs₀ Variants.none L₀ lv₀ loops tk m ρ main (segs m)
    (fun c Q => by
      rewrite [main_segs m c]
      exact .rfl)
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (launchContents m c) ∗ Rw c))
    (Tₙ := fun c => iprop(held (c : Thread nD τ) (ucRefs τ sig) (W2 m c)))
    (hch := segs_chains m)
    (hinit := by
      refine Pipeline.initEach L₀ lv₀ fun c => ?_
      rw [show unscopedBufs c (fun b => m ((c : Thread nD τ).loc b)) = held (c : Thread nD τ) (ucRefs τ sig) (launchContents m c) from Pipeline.unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W2 m c b)
    (hfin := fun c s' => by
      unfold held
      iintro ⟨Hh, HSI⟩
      ihave Hr := (pointsTo_read_all (ucRefs τ sig) (fun b => ((c : Dev nD), b)) (fun b => W2 m c b) s') $$ [Hh HSI]
      · isplitl [Hh] <;> iassumption
      icases Hr with ⟨%h, HSI⟩
      imodintro
      isplitr; · ipureintro; exact h
      iexact HSI)
    (hQ := fun _ h hz => ⟨fun c b hb => h c _ (devRef_mem_ucRefs b hb), funext fun g => hz g (.inr (sems_scoped g.2))⟩)

/-! ## What the program leaves alone -/

/-- The first loop leaves alone what its operations do not write. -/
theorem atA_keep (c : Dev nD) (r : Ref sig .tc) (h : r ∉ condA_W ++ w0A_W) : ∀ k, atA m k c (Proc.devRef .tc r) = W0 m c (Proc.devRef .tc r)
  | 0 => rfl
  | k + 1 => by
    rw [show atA m (k + 1) c = afterL bodyA (after condA (atA m k c)) from rfl]
    simp only [afterL_cons, afterL_nil]
    rw [after_of_writes_sub w0A _ w0A_writes fun hr => h (List.mem_append_right _ hr),
      after_of_writes_sub condA _ condA_writes fun hr => h (List.mem_append_left _ hr)]
    exact atA_keep c r h k

/-- The second loop leaves alone what its operations do not write. -/
theorem atB_keep (c : Dev nD) (r : Ref sig .tc) (h : r ∉ condB_W ++ (w1A_W ++ (w1B_W ++ (w1C_W ++ (w1D_W ++ w1E_W))))) :
    ∀ k, atB m k c (Proc.devRef .tc r) = W1 m c (Proc.devRef .tc r)
  | 0 => rfl
  | k + 1 => by
    rw [show atB m (k + 1) c = afterL bodyB (after condB (atB m k c)) from rfl]
    simp only [afterL_cons, afterL_nil]
    simp only [List.mem_append, not_or] at h
    rw [after_of_writes_sub w1E _ w1E_writes h.2.2.2.2.2, after_of_writes_sub w1D _ w1D_writes h.2.2.2.2.1, after_of_writes_sub w1C _ w1C_writes h.2.2.2.1,
      after_of_writes_sub w1B _ w1B_writes h.2.2.1, after_of_writes_sub w1A _ w1A_writes h.2.1,
      after_of_writes_sub condB _ condB_writes h.1]
    exact atB_keep c r (by simp only [List.mem_append, not_or]; exact h) k

/-- The first part of the program leaves alone what it does not write. -/
theorem W0_keep (c : Dev nD) (r : Ref sig .tc) (h : r ∉ preOps_W) : W0 m c (Proc.devRef .tc r) = launchContents m c (Proc.devRef .tc r) :=
  after_of_writes_sub preOps _ preOps_writes h

/-- The part between the loops leaves alone what it does not write. -/
theorem W1_keep (c : Dev nD) (r : Ref sig .tc) (h : r ∉ condA_W ++ (midA_W ++ midB_W)) : W1 m c (Proc.devRef .tc r) = atA m 32 c (Proc.devRef .tc r) := by
  simp only [List.mem_append, not_or] at h
  simp only [afterL_cons, afterL_nil]
  rw [after_of_writes_sub midB _ midB_writes h.2.2, after_of_writes_sub midA _ midA_writes h.2.1, after_of_writes_sub condA _ condA_writes h.1]

/-- The last part leaves alone what it does not write. -/
theorem W2_keep (c : Dev nD) (r : Ref sig .tc) (h : r ∉ condB_W ++ (postA_W ++ (postB_W ++ postC_W))) : W2 m c (Proc.devRef .tc r) = atB m 19 c (Proc.devRef .tc r) := by
  simp only [List.mem_append, not_or] at h
  simp only [afterL_cons, afterL_nil]
  rw [after_of_writes_sub postC _ postC_writes h.2.2.2, after_of_writes_sub postB _ postB_writes h.2.2.1, after_of_writes_sub postA _ postA_writes h.2.1,
    after_of_writes_sub condB _ condB_writes h.1]

/-- The arguments. -/
abbrev args : List (Ref sig .tc) := [main_arg0, main_arg1, main_arg2, main_arg3, main_arg4]

/-- None of the program's operations writes an argument. -/
theorem args_kept (c : Dev nD) (r : Ref sig .tc) (h : r ∈ args) : W2 m c (Proc.devRef .tc r) = m ((c.tc : Thread nD τ).loc r) := by
  have h2 : ∀ r ∈ args, r ∉ condB_W ++ (postA_W ++ (postB_W ++ postC_W)) := by decide +kernel
  have hb : ∀ r ∈ args, r ∉ condB_W ++ (w1A_W ++ (w1B_W ++ (w1C_W ++ (w1D_W ++ w1E_W)))) := by decide +kernel
  have h1 : ∀ r ∈ args, r ∉ condA_W ++ (midA_W ++ midB_W) := by decide +kernel
  have ha : ∀ r ∈ args, r ∉ condA_W ++ w0A_W := by decide +kernel
  have h0 : ∀ r ∈ args, r ∉ preOps_W := by decide +kernel
  rw [W2_keep m c r (h2 r h), atB_keep m c r (hb r h), W1_keep m c r (h1 r h), atA_keep m c r (ha r h), W0_keep m c r (h0 r h)]

/-- The run with the arguments named: they end unchanged, and the result is the fold's. -/
theorem run_result : θ_run (defs (F := F)) (onTc (τ := τ) (main (F := F))) ⟨m, fun _ => 0, ρ⟩
    (fun r => (∀ c : Dev nD, (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4))
      ∧ r.2.mem ((c.tc : Thread nD τ).loc main_v62) = W2 m c (Proc.devRef .tc main_v62)) ∧ r.2.sem = fun _ => 0) :=
  θ_run_mono (run_reference m ρ) fun r hr => ⟨fun c =>
    ⟨⟨(hr.1 c main_arg0 rfl).trans (args_kept m c _ (by decide)), (hr.1 c main_arg1 rfl).trans (args_kept m c _ (by decide)),
      (hr.1 c main_arg2 rfl).trans (args_kept m c _ (by decide)), (hr.1 c main_arg3 rfl).trans (args_kept m c _ (by decide)),
      (hr.1 c main_arg4 rfl).trans (args_kept m c _ (by decide))⟩, hr.1 c main_v62 rfl⟩, hr.2⟩

end Cert.Proof.RI

end
-- ==== Proof.Val.Lift.lean ====
module

public import Idealize.ShloMosaic.PureOps.Ideal.Laws
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.IdealHost
public import Idealize.ShloMosaic.Lib.Pipeline.Value

@[expose] public section

noncomputable section

namespace Cert.Proof.Val

open Idealize.ShloMosaic Idealize.ShloMosaic.ValueIdx

variable {a b c n : ℕ} {φ ψ : FTy}

/-- A real matrix as an array of ideal values. -/
def m2 (f : Fin a → Fin b → ℝ) : (⟨2, ![a, b]⟩ : Shape).Idx → EReal := fun i => ((f (i 0) (i 1) : ℝ) : EReal)

/-- A real vector as an array of ideal values. -/
def m1 (f : Fin a → ℝ) : (⟨1, ![a]⟩ : Shape).Idx → EReal := fun i => ((f (i 0) : ℝ) : EReal)

/-- The columns from `o` on. -/
def cut {w : ℕ} (o : ℕ) (h : o + w ≤ n) (f : Fin a → Fin n → ℝ) : Fin a → Fin w → ℝ :=
  fun i j => f i ⟨o + j.val, by have := j.isLt; omega⟩

/-- Two matrices of ideal values that agree at every row and column are equal. -/
theorem ext2 {x y : (⟨2, ![a, b]⟩ : Shape).Idx → EReal} (h : ∀ i j, x (ix2 i j) = y (ix2 i j)) : x = y :=
  funext fun i => by rw [eq_ix2 i]; exact h _ _

/-- An element of a real matrix. -/
theorem m2_ix2 (f : Fin a → Fin b → ℝ) (i : Fin a) (j : Fin b) : m2 f (ix2 i j) = ((f i j : ℝ) : EReal) := rfl

/-- An element of a real vector. -/
theorem m1_ix1 (f : Fin a → ℝ) (i : Fin a) : m1 f (ix1 i) = ((f i : ℝ) : EReal) := rfl

/-- A finite sum of reals, read as ideal values. -/
theorem coe_sum {ι : Type*} (s : Finset ι) (f : ι → ℝ) : ∑ i ∈ s, ((f i : ℝ) : EReal) = ((∑ i ∈ s, f i : ℝ) : EReal) :=
  (map_sum (⟨⟨((↑) : ℝ → EReal), EReal.coe_zero⟩, EReal.coe_add⟩ : ℝ →+ EReal) f s).symm

/-- Products of real matrices, element by element. -/
theorem mulf_m2 (f g : Fin a → Fin b → ℝ) :
    mulf (F := Ideal) (φ := φ) (s := ⟨2, ![a, b]⟩) (m2 f) (m2 g) = m2 fun i j => f i j * g i j :=
  funext fun _ => (EReal.coe_mul _ _).symm

/-- Sums of real matrices. -/
theorem addf_m2 (f g : Fin a → Fin b → ℝ) :
    addf (F := Ideal) (φ := φ) (s := ⟨2, ![a, b]⟩) (m2 f) (m2 g) = m2 fun i j => f i j + g i j :=
  funext fun _ => (EReal.coe_add _ _).symm

/-- Differences of real matrices. -/
theorem subf_m2 (f g : Fin a → Fin b → ℝ) :
    subf (F := Ideal) (φ := φ) (s := ⟨2, ![a, b]⟩) (m2 f) (m2 g) = m2 fun i j => f i j - g i j :=
  funext fun _ => (EReal.coe_sub _ _).symm

/-- The larger of two reals, read as ideal values. -/
theorem coe_max (x y : ℝ) : ((max x y : ℝ) : EReal) = max (x : EReal) (y : EReal) :=
  (EReal.coe_strictMono.monotone.map_max)

/-- Maxima of real matrices. -/
theorem maximumf_m2 (f g : Fin a → Fin b → ℝ) :
    maximumf (F := Ideal) (φ := φ) (s := ⟨2, ![a, b]⟩) (m2 f) (m2 g) = m2 fun i j => max (f i j) (g i j) :=
  funext fun _ => (coe_max _ _).symm

/-- Absolute values of a real matrix. -/
theorem absf_m2 (f : Fin a → Fin b → ℝ) :
    absf (F := Ideal) (φ := φ) (s := ⟨2, ![a, b]⟩) (m2 f) = m2 fun i j => |f i j| :=
  funext fun i => by
    show max ((f (i 0) (i 1) : ℝ) : EReal) (-((f (i 0) (i 1) : ℝ) : EReal)) = _
    rw [← EReal.coe_neg, ← coe_max]; rfl

/-- A quotient of reals by a nonzero real. -/
theorem div_coe_coe (x y : ℝ) (h : y ≠ 0) : Ideal.div (x : EReal) (y : EReal) = ((x / y : ℝ) : EReal) := by
  have h' : (y : EReal) ≠ 0 := by simpa using h
  unfold Ideal.div
  rw [if_neg h', ← EReal.coe_inv, ← EReal.coe_mul, div_eq_mul_inv]

/-- Quotients of real matrices whose divisor has no zero. -/
theorem divf_m2 (f g : Fin a → Fin b → ℝ) (h : ∀ i j, g i j ≠ 0) :
    divf (F := Ideal) (φ := φ) (s := ⟨2, ![a, b]⟩) (m2 f) (m2 g) = m2 fun i j => f i j / g i j :=
  funext fun _ => div_coe_coe _ _ (h _ _)

/-- The same for the host's quotient. -/
theorem hostDivf_m2 (f g : Fin a → Fin b → ℝ) (h : ∀ i j, g i j ≠ 0) :
    Host.divf (F := Ideal) (φ := φ) (s := ⟨2, ![a, b]⟩) (m2 f) (m2 g) = m2 fun i j => f i j / g i j :=
  funext fun _ => div_coe_coe _ _ (h _ _)

/-- Narrowing keeps an ideal value. -/
theorem truncf_id {s : Shape} (x : FVec Ideal s φ) (h) : truncf (F := Ideal) ψ x h = x := rfl

/-- Widening keeps an ideal value. -/
theorem extf_id {s : Shape} (x : FVec Ideal s φ) (h) : extf (F := Ideal) ψ x h = x := rfl

/-- A real matrix transposed. -/
theorem transpose_m2 (f : Fin a → Fin b → ℝ) (h) :
    transpose ⟨2, ![b, a]⟩ [1, 0] (m2 f) h = m2 fun i j => f j i :=
  ext2 fun i j => by rw [transpose_ix2_apply]; rfl

/-- Columns of a real matrix. -/
theorem slice_m2 {w o : ℕ} (f : Fin a → Fin n → ℝ) (h : (⟨2, ![a, n]⟩ : Shape).Slices ![0, o] ⟨2, ![a, w]⟩) (ho : o + w ≤ n) :
    extractStridedSlice ⟨2, ![a, w]⟩ ![0, o] (m2 f) h = m2 (cut o ho f) :=
  ext2 fun i j => by rw [slice2_axis1_eq]; rfl

/-- One row copied into every row. -/
theorem broadcastTo_m2 (f : Fin 1 → Fin b → ℝ) (h) :
    broadcastTo ⟨2, ![a, b]⟩ (m2 f) h = m2 fun (_ : Fin a) j => f 0 j :=
  ext2 fun i j => by rw [broadcastTo_1b_ab_apply]; rfl

/-- A matrix product of real matrices. -/
theorem matmul_plain_m2 (prec) (f : Fin a → Fin c → ℝ) (g : Fin c → Fin b → ℝ) :
    matmul (F := Ideal) (φ₁ := φ) (φ₂ := ψ) (DotDims.plain a c b) prec (m2 f) (m2 g) (constant _ .f32 0x00000000#32)
      = m2 fun i j => ∑ k, f i k * g k j :=
  ext2 fun i j => by
    simp only [matmul]
    rw [Ideal.matmul_plain_apply]
    show Ideal.ofBits .f32 0x00000000#32 + _ = _
    rw [Ideal.ofBits_zero_f32, zero_add]
    simp only [m2_ix2, ← EReal.coe_mul, coe_sum]

/-- The word of negative infinity. -/
theorem ofBits_neg_inf : Ideal.ofBits .f32 0xFF800000#32 = (⊥ : EReal) := by
  simp [Ideal.ofBits, Ideal.ieee]

/-- The largest of finitely many reals, folded from negative infinity. -/
theorem fold_max_coe {ι : Type*} [Fintype ι] [Nonempty ι] (f : ι → ℝ) :
    (Finset.univ : Finset ι).fold max (⊥ : EReal) (fun i => ((f i : ℝ) : EReal))
      = ((Finset.univ.sup' Finset.univ_nonempty f : ℝ) : EReal) := by
  rw [show (Finset.univ : Finset ι).fold max (⊥ : EReal) (fun i => ((f i : ℝ) : EReal)) = Finset.univ.sup fun i => ((f i : ℝ) : EReal) from rfl,
    ← Finset.sup'_eq_sup Finset.univ_nonempty]
  exact (Finset.comp_sup'_eq_sup'_comp Finset.univ_nonempty (fun x : ℝ => (x : EReal)) fun x y => coe_max x y).symm

/-- An index of a matrix whose rows are reduced. -/
theorem lift_rows (h : (⟨2, ![a, b]⟩ : Shape).Reduces [0] ⟨1, ![b]⟩) (j : Fin b) (k : Fin a) : h.lift (ix1 j) k = ix2 k j :=
  funext fun x => match x with
    | ⟨0, _⟩ => Fin.ext rfl
    | ⟨1, _⟩ => Fin.ext rfl

/-- An index of a matrix whose columns are reduced. -/
theorem lift_cols (h : (⟨2, ![a, b]⟩ : Shape).Reduces [1] ⟨1, ![a]⟩) (i : Fin a) (k : Fin b) : h.lift (ix1 i) k = ix2 i k :=
  funext fun x => match x with
    | ⟨0, _⟩ => Fin.ext rfl
    | ⟨1, _⟩ => Fin.ext rfl

/-- Column sums of a real matrix, as one row. -/
theorem colsum_m2 (f : Fin a → Fin b → ℝ) (h) (hφ) (hacc) (hc) :
    shapeCast ⟨2, ![1, b]⟩ (multiReduction (F := Ideal) (φ := .f32) .add [0] ⟨1, ![b]⟩ (s := ⟨2, ![a, b]⟩) (m2 f) 0x00000000#32 h hφ hacc) hc
      = m2 fun (_ : Fin 1) j => ∑ i, f i j :=
  ext2 fun i j => by
    rw [shapeCast_a_1a_apply, Ideal.multiReduction_add_single]
    show (∑ k : Fin a, m2 f (h.lift (ix1 j) k)) = _
    simp only [lift_rows, m2_ix2, coe_sum]

/-- The largest entry of each column of a real matrix, as one row. -/
theorem colmax_m2 [Nonempty (Fin a)] (f : Fin a → Fin b → ℝ) (h) (hφ) (hacc) (hc) :
    shapeCast ⟨2, ![1, b]⟩ (multiReduction (F := Ideal) (φ := .f32) .maximumf [0] ⟨1, ![b]⟩ (s := ⟨2, ![a, b]⟩) (m2 f) 0xFF800000#32 h hφ hacc) hc
      = m2 fun (_ : Fin 1) j => Finset.univ.sup' Finset.univ_nonempty fun i => f i j :=
  ext2 fun i j => by
    rw [shapeCast_a_1a_apply, Ideal.multiReduction_maximumf_single]
    show (Finset.univ : Finset (Fin a)).fold max (Ideal.ofBits .f32 0xFF800000#32) (fun k => m2 f (h.lift (ix1 j) k)) = _
    rw [ofBits_neg_inf]
    simp only [lift_rows, m2_ix2]
    exact fold_max_coe (ι := Fin a) _

/-- A word spread over a matrix, where the word denotes a real. -/
theorem broadcast_m2 (w : BitVec φ.bits) (r : ℝ) (h : Ideal.ofBits φ w = (r : EReal)) :
    broadcast (⟨2, ![a, b]⟩ : Shape) (Scalar.ofBits (F := Ideal) φ w) = m2 fun _ _ => r :=
  funext fun _ => h

/-! ## Host operations on matrices and stacks of matrices -/

/-- A real stack of matrices as an array of ideal values. -/
def m3 (f : Fin a → Fin b → Fin c → ℝ) : (⟨3, ![a, b, c]⟩ : Shape).Idx → EReal := fun i => ((f (i 0) (i 1) (i 2) : ℝ) : EReal)

/-- Two stacks of ideal values that agree everywhere are equal. -/
theorem ext3 {x y : (⟨3, ![a, b, c]⟩ : Shape).Idx → EReal} (h : ∀ i j k, x (ix3 i j k) = y (ix3 i j k)) : x = y :=
  funext fun i => by rw [eq_ix3 i]; exact h _ _ _

/-- Two vectors of ideal values that agree everywhere are equal. -/
theorem ext1 {x y : (⟨1, ![a]⟩ : Shape).Idx → EReal} (h : ∀ i, x (ix1 i) = y (ix1 i)) : x = y :=
  funext fun i => by rw [eq_ix1 i]; exact h _

/-- An element of a real stack. -/
theorem m3_ix3 (f : Fin a → Fin b → Fin c → ℝ) (i : Fin a) (j : Fin b) (k : Fin c) : m3 f (ix3 i j k) = ((f i j k : ℝ) : EReal) := rfl

/-- Products of real stacks. -/
theorem mulf_m3 (f g : Fin a → Fin b → Fin c → ℝ) :
    mulf (F := Ideal) (φ := φ) (s := ⟨3, ![a, b, c]⟩) (m3 f) (m3 g) = m3 fun i j k => f i j k * g i j k :=
  funext fun _ => (EReal.coe_mul _ _).symm

/-- Sums of real stacks. -/
theorem addf_m3 (f g : Fin a → Fin b → Fin c → ℝ) :
    addf (F := Ideal) (φ := φ) (s := ⟨3, ![a, b, c]⟩) (m3 f) (m3 g) = m3 fun i j k => f i j k + g i j k :=
  funext fun _ => (EReal.coe_add _ _).symm

/-- A scalar word copied into a matrix. -/
theorem splat_m2 (w : BitVec φ.bits) (r : ℝ) (h : Ideal.ofBits φ w = (r : EReal)) (hb) :
    broadcastInDim (⟨2, ![a, b]⟩ : Shape) ![] hb (constant (F := Ideal) ⟨0, ![]⟩ φ w) = m2 fun _ _ => r :=
  funext fun _ => h

/-- A vector as one column, copied into every column. -/
theorem spreadCol_m1 (f : Fin a → ℝ) (h) (h') :
    broadcastInDim (⟨2, ![a, b]⟩ : Shape) ![0, 1] h' (broadcastInDim (⟨2, ![a, 1]⟩ : Shape) ![0] h (m1 f)) = m2 fun i (_ : Fin b) => f i :=
  ext2 fun i j => by
    rw [broadcastInDim_apply _ _ _ (ix2 i j) (ix2 i (0 : Fin 1)), broadcastInDim_apply _ _ _ (ix2 i (0 : Fin 1)) (ix1 i)]
    · rfl
    · intro x
      match x with
      | ⟨0, _⟩ =>
        show i.val = if a = 1 then 0 else i.val
        split
        · have := i.isLt; omega
        · rfl
    · intro x
      match x with
      | ⟨0, _⟩ =>
        show i.val = if a = 1 then 0 else i.val
        split
        · have := i.isLt; omega
        · rfl
      | ⟨1, _⟩ => show (0 : ℕ) = if (1 : ℕ) = 1 then 0 else _; simp

/-- Row sums of a real matrix. -/
theorem hostRowsum_m2 (f : Fin a → Fin b → ℝ) (h) (h1 : (⟨2, ![a, b]⟩ : Shape).Reduces [1] ⟨1, ![a]⟩) (hu) :
    Host.reduceAdd (F := Ideal) (φ := .f32) (s := ⟨2, ![a, b]⟩) (t := ⟨1, ![a]⟩) (axes := [1]) (u := ⟨0, ![]⟩) (m2 f) (constant _ .f32 0x00000000#32) h hu
      = m1 fun i => ∑ j, f i j :=
  ext1 fun i => by
    rw [hostReduceAdd_apply, Ideal.hostReduceAdd_single _ h1]
    show Ideal.ofBits .f32 0x00000000#32 + (∑ k : Fin b, m2 f (h1.lift (ix1 i) k)) = _
    rw [Ideal.ofBits_zero_f32, zero_add]
    simp only [lift_cols, m2_ix2, coe_sum, m1_ix1]

/-- The largest entry of each row of a real matrix. -/
theorem hostRowmax_m2 [Nonempty (Fin b)] (f : Fin a → Fin b → ℝ) (h) (h1 : (⟨2, ![a, b]⟩ : Shape).Reduces [1] ⟨1, ![a]⟩) (hu) :
    Host.reduce (s := ⟨2, ![a, b]⟩) (t := ⟨1, ![a]⟩) (axes := [1]) (u := ⟨0, ![]⟩) (FloatOps.maximumf (F := Ideal) (φ := .f32)) (m2 f) (constant (F := Ideal) _ .f32 0xFF800000#32) h hu
      = m1 fun i => Finset.univ.sup' Finset.univ_nonempty fun j => f i j :=
  ext1 fun i => by
    rw [Host.reduce_eq_fold_single _ _ _ h h1]
    show (Finset.univ : Finset (Fin b)).fold max (Ideal.ofBits .f32 0xFF800000#32) (fun k => m2 f (h1.lift (ix1 i) k)) = _
    rw [ofBits_neg_inf]
    simp only [lift_cols, m2_ix2]
    exact fold_max_coe (ι := Fin b) _

end Cert.Proof.Val

end
-- ==== Proof.Val.Model.lean ====
module

public import Mathlib.Data.EReal.Operations
public import Mathlib.Algebra.BigOperators.Fin
public import Mathlib.Algebra.Order.BigOperators.Group.Finset
public import Mathlib.Tactic.Ring
public import Mathlib.Tactic.Linarith
public import Mathlib.Tactic.FieldSimp
public import Mathlib.Tactic.Positivity

@[expose] public section

noncomputable section

namespace Cert.Proof.Val

/-- The weight of the identity in each row's matrix. -/
def al : ℝ := 13421773 / 134217728
/-- The weight of the graph term. -/
def ltr : ℝ := 10737418 / 1073741824
/-- The tolerance of the descent. -/
def tol : ℝ := 11258999 / 1125899906842624

/-- The weight of the identity is positive. -/
theorem al_pos : 0 < al := by unfold al; norm_num

/-- The largest entry of a vector. -/
def top (w : Fin 64 → ℝ) : ℝ := Finset.univ.sup' Finset.univ_nonempty w

/-- Every entry is at most the largest. -/
theorem le_top' (w : Fin 64 → ℝ) (r : Fin 64) : w r ≤ top w := Finset.le_sup' w (Finset.mem_univ r)

/-- A vector with a positive entry has a positive largest entry. -/
theorem top_pos {w : Fin 64 → ℝ} (r : Fin 64) (h : 0 < w r) : 0 < top w := lt_of_lt_of_le h (le_top' w r)

variable (M : Fin 4096 → Fin 512 → ℝ) (H : Fin 64 → Fin 512 → ℝ) (L : Fin 4096 → Fin 4096 → ℝ) (Z : Fin 4096 → Fin 512 → ℝ)

/-- Row `i`'s matrix. -/
def A (i : Fin 4096) (r s : Fin 64) : ℝ := (∑ c, M i c * (H r c * H s c)) + al * (if r = s then 1 else 0)

/-- Row `i`'s matrix applied to a vector. -/
def app (i : Fin 4096) (v : Fin 64 → ℝ) (r : Fin 64) : ℝ := ∑ s, A M H i r s * v s

/-- Row `i`'s iterates of the power method. -/
def pw (i : Fin 4096) : ℕ → Fin 64 → ℝ
  | 0 => fun r => A M H i r r / top fun r => A M H i r r
  | k + 1 => fun r => app M H i (pw i k) r / top fun r => |app M H i (pw i k) r|

/-- Row `i`'s Rayleigh quotient after 32 steps. -/
def lam (i : Fin 4096) : ℝ :=
  (∑ r, pw M H i 32 r * app M H i (pw M H i 32) r) / ∑ r, pw M H i 32 r * pw M H i 32 r

/-- The right-hand side. -/
def rhs (i : Fin 4096) (s : Fin 64) : ℝ := ∑ c, M i c * Z i c * H s c

/-- One descent step, clipped at zero. -/
def stp (W : Fin 4096 → Fin 64 → ℝ) (i : Fin 4096) (s : Fin 64) : ℝ :=
  max (W i s + (rhs M H Z i s - (∑ r, W i r * A M H i r s) - ltr * ∑ k, L i k * W k s) / lam M H i) 0

/-- The sum of the squared changes of a step. -/
def chg (W : Fin 4096 → Fin 64 → ℝ) : ℝ :=
  ∑ i, ∑ s, (stp M H L Z W i s - W i s) * (stp M H L Z W i s - W i s)

open Classical in
/-- The next iterate and flag: nothing changes once the flag is raised. -/
def adv (R : (Fin 4096 → Fin 64 → ℝ) × BitVec 1) : (Fin 4096 → Fin 64 → ℝ) × BitVec 1 :=
  if R.2 = 0#1 then (stp M H L Z R.1, if chg M H L Z R.1 / 262144 ≤ tol then 1#1 else 0#1) else R

/-- The iterate and flag before trip `n`. -/
def its (W : Fin 4096 → Fin 64 → ℝ) : ℕ → (Fin 4096 → Fin 64 → ℝ) × BitVec 1
  | 0 => (W, 0#1)
  | n + 1 => adv M H L Z (its W n)

/-- The result: one more step after 19 trips. -/
def res (W : Fin 4096 → Fin 64 → ℝ) : Fin 4096 → Fin 64 → ℝ := stp M H L Z (its M H L Z W 19).1

/-- The matrix applied to a vector, through the columns of `H`. -/
theorem app_eq (i : Fin 4096) (v : Fin 64 → ℝ) (r : Fin 64) :
    app M H i v r = (∑ c, H r c * ((∑ s, H s c * v s) * M i c)) + al * v r := by
  unfold app A
  simp only [add_mul, Finset.sum_add_distrib, Finset.sum_mul, Finset.mul_sum]
  congr 1
  · rw [Finset.sum_comm]
    refine Finset.sum_congr rfl fun c _ => Finset.sum_congr rfl fun s _ => by ring
  · rw [Finset.sum_eq_single r (fun s _ h => by simp [Ne.symm h]) (by simp)]
    simp

/-- Row `i`'s matrix is symmetric. -/
theorem A_symm (i : Fin 4096) (r s : Fin 64) : A M H i r s = A M H i s r := by
  unfold A
  congr 1
  · exact Finset.sum_congr rfl fun c _ => by ring
  · simp only [eq_comm]

/-- Multiplying from the left is applying the matrix. -/
theorem left_eq (i : Fin 4096) (w : Fin 64 → ℝ) (s : Fin 64) : (∑ r, w r * A M H i r s) = app M H i w s :=
  Finset.sum_congr rfl fun r _ => by rw [A_symm]; ring

/-- The diagonal of row `i`'s matrix. -/
theorem A_diag (i : Fin 4096) (r : Fin 64) : A M H i r r = (∑ c, H r c * H r c * M i c) + al := by
  unfold A
  rw [if_pos rfl, mul_one]
  congr 1
  exact Finset.sum_congr rfl fun c _ => by ring

section Positive

variable {M} (hM : ∀ i c, 0 ≤ M i c)
include hM

/-- The diagonal is positive. -/
theorem diag_pos (i : Fin 4096) (r : Fin 64) : 0 < A M H i r r := by
  rw [A_diag]
  have : 0 ≤ ∑ c, H r c * H r c * M i c := Finset.sum_nonneg fun c _ => mul_nonneg (mul_self_nonneg _) (hM i c)
  have := al_pos
  linarith

/-- The matrix is at least `al` times the identity. -/
theorem quad_ge (i : Fin 4096) (v : Fin 64 → ℝ) : al * (∑ r, v r * v r) ≤ ∑ r, v r * app M H i v r := by
  have h : ∑ r, v r * app M H i v r = (∑ c, (∑ s, H s c * v s) * (∑ s, H s c * v s) * M i c) + al * ∑ r, v r * v r := by
    simp only [app_eq, mul_add, Finset.sum_add_distrib]
    congr 1
    · have e : ∀ t : Fin 512 → ℝ, ∑ r, v r * ∑ c, H r c * (t c * M i c) = ∑ c, (∑ r, H r c * v r) * t c * M i c := fun t => by
        simp only [Finset.mul_sum, Finset.sum_mul]
        rw [Finset.sum_comm]
        exact Finset.sum_congr rfl fun c _ => Finset.sum_congr rfl fun s _ => by ring
      exact e _
    · rw [Finset.mul_sum]
      exact Finset.sum_congr rfl fun r _ => by ring
  rw [h]
  have : 0 ≤ ∑ c, (∑ s, H s c * v s) * (∑ s, H s c * v s) * M i c :=
    Finset.sum_nonneg fun c _ => mul_nonneg (mul_self_nonneg _) (hM i c)
  linarith

/-- A nonzero vector has a nonzero image. -/
theorem app_top_pos (i : Fin 4096) (v : Fin 64 → ℝ) (hv : 0 < ∑ r, v r * v r) : 0 < top fun r => |app M H i v r| := by
  by_contra hn
  have h0 : ∀ r, app M H i v r = 0 := fun r => by
    by_contra hr
    exact hn (top_pos (w := fun r => |app M H i v r|) r (abs_pos.mpr hr))
  have := quad_ge H hM i v
  simp only [h0, mul_zero, Finset.sum_const_zero] at this
  have := mul_pos al_pos hv
  linarith

/-- A nonzero vector stays nonzero when divided by a nonzero number. -/
theorem sq_pos_of_ne {w : Fin 64 → ℝ} (r : Fin 64) (h : w r ≠ 0) : 0 < ∑ r, w r * w r := by
  clear hM
  exact lt_of_lt_of_le (mul_self_pos.mpr h) (Finset.single_le_sum (f := fun r => w r * w r) (fun s _ => mul_self_nonneg _) (Finset.mem_univ r))

/-- The starting vector's largest entry is positive. -/
theorem start_pos (i : Fin 4096) : 0 < top fun r => A M H i r r := top_pos (w := fun r => A M H i r r) 0 (diag_pos H hM i 0)

/-- No iterate of the power method is zero. -/
theorem pw_pos (i : Fin 4096) : ∀ k, 0 < ∑ r, pw M H i k r * pw M H i k r
  | 0 => sq_pos_of_ne hM (w := pw M H i 0) 0 (div_ne_zero (diag_pos H hM i 0).ne' (start_pos H hM i).ne')
  | k + 1 => by
    have ht := app_top_pos H hM i (pw M H i k) (pw_pos i k)
    have : ∃ r, app M H i (pw M H i k) r ≠ 0 := by
      by_contra hn
      push Not at hn
      have hq := quad_ge H hM i (pw M H i k)
      simp only [hn, mul_zero, Finset.sum_const_zero] at hq
      have := mul_pos al_pos (pw_pos i k)
      linarith
    obtain ⟨r, hr⟩ := this
    exact sq_pos_of_ne hM (w := pw M H i (k + 1)) r (div_ne_zero hr ht.ne')

/-- The divisor of each step of the power method is not zero. -/
theorem step_ne (i : Fin 4096) (k : ℕ) : (top fun r => |app M H i (pw M H i k) r|) ≠ 0 :=
  (app_top_pos H hM i _ (pw_pos H hM i k)).ne'

/-- The Rayleigh quotient is positive. -/
theorem lam_pos (i : Fin 4096) : 0 < lam M H i := by
  unfold lam
  refine div_pos (lt_of_lt_of_le (mul_pos al_pos (pw_pos H hM i 32)) (quad_ge H hM i _)) (pw_pos H hM i 32)

end Positive

end Cert.Proof.Val

end
-- ==== Proof.Val.Chunk.lean ====
module

public import proofs.«01_k».proof.Proof.Gen.KernelIdeal
public import proofs.«01_k».proof.Proof.Val.Lift
public import proofs.«01_k».proof.Proof.Val.Model

@[expose] public section

noncomputable section

namespace Cert.Proof.Val

open Cert.KernelIdeal Cert.KernelIdeal.Gen
open Idealize.ShloMosaic Idealize.ShloMosaic.ValueIdx

section AnyFloat

variable {F : FTy → Type} [FloatOps F]

/-- One step of the main kernel on the 1024 columns from `o` on, before the sum and the clip. -/
def inc (o : ℕ) (hs : S64x4096.Slices ![0, o] S64x1024) (h1 : S1x4096.Slices ![0, o] S1x1024) (v8 : FVec F S1x4096 .f32) (v10 : FVec F S64x4096 .f32)
    (v12 : FVec F S64x512 .bf16) (v14 : FVec F S512x64 .bf16) (w : Vec F S64x4096 .f32) (lt : Vec F S4096x1024 .fp8e4m3) (mt : Vec F S512x1024 .bf16) :
    FVec F S64x1024 .f32 :=
  mulf (subf (subf (subf (extractStridedSlice S64x1024 ![0, o] v10 hs)
      (matmul dot_S64x512_S512x1024_S64x1024_1_0_0_1_n_n none v12
        (mulf (truncf .bf16 (matmul dot_S512x64_S64x1024_S512x1024_1_0_0_1_n_n none v14
          (extractStridedSlice S64x1024 ![0, o] (truncf .bf16 w bitsLt_bf16_f32) hs) (constant S512x1024 .f32 0x00000000#32)) bitsLt_bf16_f32)
          (shapeCast S512x1024 mt shapeCasts_S512x1024_S512x1024)) (constant S64x1024 .f32 0x00000000#32)))
      (mulf (broadcast S64x1024 (Scalar.ofBits .f32 0x3DCCCCCD#32)) (extractStridedSlice S64x1024 ![0, o] w hs)))
      (mulf (broadcast S64x1024 (Scalar.ofBits .f32 0x3823D70A#32))
        (matmul dot_S64x4096_S4096x1024_S64x1024_1_0_0_1_n_n none (truncf .fp8e4m3 w bitsLt_fp8e4m3_f32)
          (shapeCast S4096x1024 lt shapeCasts_S4096x1024_S4096x1024) (constant S64x1024 .f32 0x00000000#32))))
    (broadcastTo S64x1024 (extractStridedSlice S1x1024 ![0, o] v8 h1) broadcasts_S1x1024_S64x1024)

/-- One step of the main kernel on the 1024 columns from `o` on. -/
def chunk (o : ℕ) (hs : S64x4096.Slices ![0, o] S64x1024) (h1 : S1x4096.Slices ![0, o] S1x1024) (v8 : FVec F S1x4096 .f32) (v10 : FVec F S64x4096 .f32)
    (v12 : FVec F S64x512 .bf16) (v14 : FVec F S512x64 .bf16) (w : Vec F S64x4096 .f32) (lt : Vec F S4096x1024 .fp8e4m3) (mt : Vec F S512x1024 .bf16) :
    FVec F S64x1024 .f32 :=
  maximumf (addf (extractStridedSlice S64x1024 ![0, o] w hs) (inc o hs h1 v8 v10 v12 v14 w lt mt)) (broadcast S64x1024 (Scalar.ofBits .f32 0x00000000#32))

/-- The column sums of the squared changes of a chunk, added to a row. -/
def addSq (o : ℕ) (hs : S64x4096.Slices ![0, o] S64x1024) (w : Vec F S64x4096 .f32) (n : FVec F S64x1024 .f32) (acc : FVec F S1x1024 .f32) : FVec F S1x1024 .f32 :=
  addf acc (shapeCast S1x1024 (multiReduction .add [0] S1024 (mulf (subf n (extractStridedSlice S64x1024 ![0, o] w hs)) (subf n (extractStridedSlice S64x1024 ![0, o] w hs)))
    0x00000000#32 reduces_S64x1024_S1024 (.inl rfl) rfl) shapeCasts_S1024_S1x1024)

/-- The total of a row. -/
def total (v : FVec F S1x1024 .f32) : F .f32 :=
  extractAt ![0, 0, 0] (shapeCast S1x1x1 (multiReduction .add [1, 2] S1 (shapeCast S1x1x1024 v shapeCasts_S1x1024_S1x1x1024) 0x00000000#32 reduces_S1x1x1024_S1 (.inl rfl) rfl)
    shapeCasts_S1_S1x1x1) inpos_S1x1x1_p0_0_0

end AnyFloat

/-- The word of the identity's weight. -/
theorem ofBits_al : Ideal.ofBits .f32 0x3DCCCCCD#32 = ((al : ℝ) : EReal) := by
  simp [Ideal.ofBits, Ideal.ieee, al, -EReal.coe_mul]; norm_num

/-- The word of the graph term's weight over 256. -/
theorem ofBits_ltr : Ideal.ofBits .f32 0x3823D70A#32 = ((ltr / 256 : ℝ) : EReal) := by
  simp [Ideal.ofBits, Ideal.ieee, ltr, -EReal.coe_mul]; norm_num

/-- The word of zero, as a real. -/
theorem ofBits_zero : Ideal.ofBits .f32 0x00000000#32 = ((0 : ℝ) : EReal) := by
  rw [Ideal.ofBits_zero_f32]; rfl

/-- One step in the kernel's layout: columns are the problem's rows. -/
def kstp (q : Fin 1 → Fin 4096 → ℝ) (V : Fin 64 → Fin 4096 → ℝ) (H : Fin 64 → Fin 512 → ℝ) (T : Fin 512 → Fin 64 → ℝ)
    (LT : Fin 4096 → Fin 4096 → ℝ) (mT : Fin 512 → Fin 4096 → ℝ) (W : Fin 64 → Fin 4096 → ℝ) (r : Fin 64) (j : Fin 4096) : ℝ :=
  max (W r j + (V r j - (∑ c, H r c * ((∑ s, T c s * W s j) * mT c j)) - al * W r j - ltr / 256 * ∑ k, W r k * LT k j) * q 0 j) 0

/-- A chunk of a step at real arguments. -/
theorem chunk_m2 (o : ℕ) (hs) (h1) (ho : o + 1024 ≤ 4096) (q : Fin 1 → Fin 4096 → ℝ) (V : Fin 64 → Fin 4096 → ℝ) (H : Fin 64 → Fin 512 → ℝ) (T : Fin 512 → Fin 64 → ℝ)
    (LT : Fin 4096 → Fin 4096 → ℝ) (mT : Fin 512 → Fin 4096 → ℝ) (W : Fin 64 → Fin 4096 → ℝ) :
    chunk (F := Ideal) o hs h1 (m2 q) (m2 V) (m2 H) (m2 T) (m2 W) (m2 (cut o ho LT)) (m2 (cut o ho mT)) = m2 (cut o ho (kstp q V H T LT mT W)) := by
  unfold chunk inc
  simp only [truncf_id, shapeCast_self]
  rw [show dot_S64x512_S512x1024_S64x1024_1_0_0_1_n_n = DotDims.plain 64 512 1024 from rfl,
    show dot_S512x64_S64x1024_S512x1024_1_0_0_1_n_n = DotDims.plain 512 64 1024 from rfl,
    show dot_S64x4096_S4096x1024_S64x1024_1_0_0_1_n_n = DotDims.plain 64 4096 1024 from rfl]
  rw [slice_m2 V hs ho, slice_m2 W hs ho, slice_m2 q h1 ho]
  rw [matmul_plain_m2, matmul_plain_m2, mulf_m2, matmul_plain_m2, broadcast_m2 _ _ ofBits_al, broadcast_m2 _ _ ofBits_ltr, broadcast_m2 _ _ ofBits_zero,
    broadcastTo_m2, subf_m2, mulf_m2, subf_m2, mulf_m2, subf_m2, mulf_m2, addf_m2, maximumf_m2]
  rfl

end Cert.Proof.Val

end
-- ==== Proof.Val.Step.lean ====
module

public import proofs.«01_k».proof.Proof.KI.Body2
public import proofs.«01_k».proof.Proof.Val.Chunk
public import Idealize.ShloMosaic.Lib.Pipeline.FrameBody
public import Idealize.ShloMosaic.Lib.Pipeline.ValueKit
public import Idealize.ShloMosaic.Lib.Ring

@[expose] public section

noncomputable section

namespace Cert.Proof.Val

open Cert.KernelIdeal Cert.KernelIdeal.Gen Cert.Proof.KI
open Idealize.ShloMosaic Idealize.ShloMosaic.ValueIdx

section AnyFloat

variable {F : FTy → Type} [FloatOps F]

variable (M0 : Memref sig .tc .vmem S4096x4096 .fp8e4m3) (h0 : M0.IsWhole)
variable (M1 : Memref sig .tc .vmem S512x4096 .bf16) (h1 : M1.IsWhole)
variable (M2 : Memref sig .tc .vmem S64x512 .f32) (h2 : M2.IsWhole)
variable (M3 : Memref sig .tc .vmem S64x512 .bf16) (h3 : M3.IsWhole)
variable (M4 : Memref sig .tc .vmem S512x64 .bf16) (h4 : M4.IsWhole)
variable (M5 : Memref sig .tc .vmem S64x4096 .f32) (h5 : M5.IsWhole)
variable (M6 : Memref sig .tc .vmem S1x4096 .f32) (h6 : M6.IsWhole)
variable (M7 : Memref sig .tc .vmem S64x4096 .f32) (h7 : M7.IsWhole)
variable (M8 : Memref sig .tc .vmem S64x4096 .f32) (h8 : M8.IsWhole)
variable (M9 : Memref sig .tc .vmem S64x4096 .f32) (h9 : M9.IsWhole)
variable (M10 : Memref sig .tc .vmem S64x4096 .f32) (h10 : M10.IsWhole)

/-- A shape cast to the same shape, as the stored chunks go through. -/
abbrev cst (x : FVec F S64x1024 .f32) : FVec F S64x1024 .f32 := shapeCast S64x1024 x shapeCasts_S64x1024_S64x1024

/-- The four chunks of a step as stored, last first. -/
def four (x : Fin 4 → FVec F S64x1024 .f32) : List (View.Piece (Elt F) S64x4096 .f32) :=
  [⟨Rect.unit ![0, 3072] S64x1024.size inb_S64x4096_S64x1024_0_3072, cst (x 3)⟩, ⟨Rect.unit ![0, 2048] S64x1024.size inb_S64x4096_S64x1024_0_2048, cst (x 2)⟩,
    ⟨Rect.unit ![0, 1024] S64x1024.size inb_S64x4096_S64x1024_0_1024, cst (x 1)⟩, ⟨Rect.unit ![0, 0] S64x1024.size inb_S64x4096_S64x1024_0_0, cst (x 0)⟩]

/-- The columns of the graph's matrix a chunk loads. -/
abbrev ldL (o : ℕ) (inb : ∀ a, (![0, o] : Fin 2 → Nat) a + S4096x1024.size a ≤ S4096x4096.size a) (c : Dev nD) (f0 : Bf (F := F) c M0) : Vec F S4096x1024 .fp8e4m3 :=
  View.readAt (Elt F) M0.view (Rect.unit (s := S4096x4096) ![0, o] S4096x1024.size inb).toLoadRect f0
/-- The columns of the mask a chunk loads. -/
abbrev ldM (o : ℕ) (inb : ∀ a, (![0, o] : Fin 2 → Nat) a + S512x1024.size a ≤ S512x4096.size a) (c : Dev nD) (f1 : Bf (F := F) c M1) : Vec F S512x1024 .bf16 :=
  View.readAt (Elt F) M1.view (Rect.unit (s := S512x4096) ![0, o] S512x1024.size inb).toLoadRect f1
/-- The whole iterate as loaded. -/
abbrev ldW (c : Dev nD) (W : Bf (F := F) c M9) : Vec F S64x4096 .f32 :=
  View.readAt (Elt F) M9.view (Rect.unit ![0, 0] S64x4096.size inb_S64x4096_S64x4096_0_0).toLoadRect W

/-- The four chunks of a step. -/
def parts (v8 : FVec F S1x4096 .f32) (v10 : FVec F S64x4096 .f32) (v12 : FVec F S64x512 .bf16) (v14 : FVec F S512x64 .bf16) (c : Dev nD)
    (f0 : Bf (F := F) c M0) (f1 : Bf (F := F) c M1) (w : Vec F S64x4096 .f32) : Fin 4 → FVec F S64x1024 .f32
  | 0 => chunk 0 slices_S64x4096_o0_0_S64x1024 slices_S1x4096_o0_0_S1x1024 v8 v10 v12 v14 w (ldL M0 0 inb_S4096x4096_S4096x1024_0_0 c f0) (ldM M1 0 inb_S512x4096_S512x1024_0_0 c f1)
  | 1 => chunk 1024 slices_S64x4096_o0_1024_S64x1024 slices_S1x4096_o0_1024_S1x1024 v8 v10 v12 v14 w (ldL M0 1024 inb_S4096x4096_S4096x1024_0_1024 c f0) (ldM M1 1024 inb_S512x4096_S512x1024_0_1024 c f1)
  | 2 => chunk 2048 slices_S64x4096_o0_2048_S64x1024 slices_S1x4096_o0_2048_S1x1024 v8 v10 v12 v14 w (ldL M0 2048 inb_S4096x4096_S4096x1024_0_2048 c f0) (ldM M1 2048 inb_S512x4096_S512x1024_0_2048 c f1)
  | 3 => chunk 3072 slices_S64x4096_o0_3072_S64x1024 slices_S1x4096_o0_3072_S1x1024 v8 v10 v12 v14 w (ldL M0 3072 inb_S4096x4096_S4096x1024_0_3072 c f0) (ldM M1 3072 inb_S512x4096_S512x1024_0_3072 c f1)

/-- Four chunks as stored, from what each is. -/
theorem four_congr {x : Fin 4 → FVec F S64x1024 .f32} {y3 y2 y1 y0 : FVec F S64x1024 .f32} (e3 : y3 = cst (x 3)) (e2 : y2 = cst (x 2)) (e1 : y1 = cst (x 1))
    (e0 : y0 = cst (x 0)) :
    ([⟨Rect.unit ![0, 3072] S64x1024.size inb_S64x4096_S64x1024_0_3072, y3⟩, ⟨Rect.unit ![0, 2048] S64x1024.size inb_S64x4096_S64x1024_0_2048, y2⟩,
      ⟨Rect.unit ![0, 1024] S64x1024.size inb_S64x4096_S64x1024_0_1024, y1⟩, ⟨Rect.unit ![0, 0] S64x1024.size inb_S64x4096_S64x1024_0_0, y0⟩] :
      List (View.Piece (Elt F) S64x4096 .f32)) = four x := by
  subst e3 e2 e1 e0; rfl

/-- The mean square of a step's change, as the kernel computes it. -/
def mse (w : Vec F S64x4096 .f32) (x : Fin 4 → FVec F S64x1024 .f32) : F .f32 :=
  Scalar.divf (total (addSq 3072 slices_S64x4096_o0_3072_S64x1024 w (x 3) (addSq 2048 slices_S64x4096_o0_2048_S64x1024 w (x 2)
    (addSq 1024 slices_S64x4096_o0_1024_S64x1024 w (x 1) (addSq 0 slices_S64x4096_o0_0_S64x1024 w (x 0)
      (broadcast S1x1024 (Scalar.ofBits .f32 0x00000000#32))))))) (Scalar.ofBits .f32 0x48800000#32)

/-- The iterate a trip stores. -/
theorem trip0_fst (v5 : Vec F S1x4096 .f32) (v9 : Vec F S64x4096 .f32) (v11 : Vec F S64x512 .bf16) (v13 : Vec F S512x64 .bf16) (c : Dev nD)
    (f0 : Bf (F := F) c M0) (f1 : Bf (F := F) c M1) (W : Bf (F := F) c M9) :
    (trip0 M0 h0 M1 h1 M2 h2 M3 h3 M4 h4 M5 h5 M6 h6 M7 h7 M8 h8 M9 h9 M10 h10 v5 v9 v11 v13 c f0 f1 W).1.1
      = M9.view.writes (Elt F) M9.view.junk [⟨Rect.unit ![0, 0] S64x4096.size inb_S64x4096_S64x4096_0_0,
          k2_pay28 (M10.view.readCov
            (four (parts M0 M1 (k2_pay22 v5) (k2_pay23 v9) (k2_pay24 v11) (k2_pay25 v13) c f0 f1 (ldW M9 c W)))
            (Rect.unit ![0, 0] S64x4096.size inb_S64x4096_S64x4096_0_0).toLoadRect)⟩] := by
  generalize hR : M9.view.writes (Elt F) M9.view.junk _ = R
  unfold trip0
  dsimp only
  unfold trip0.sl.H9_1 trip0.sl.v280 trip0.sl.H10_4
  rewrite [four_congr (x := parts M0 M1 (k2_pay22 v5) (k2_pay23 v9) (k2_pay24 v11) (k2_pay25 v13) c f0 f1 (ldW M9 c W)) ?_ ?_ ?_ ?_]
  · exact hR
  · rfl
  · rfl
  · rfl
  · rfl

/-- The flag a trip returns. -/
theorem trip0_snd (v5 : Vec F S1x4096 .f32) (v9 : Vec F S64x4096 .f32) (v11 : Vec F S64x512 .bf16) (v13 : Vec F S512x64 .bf16) (c : Dev nD)
    (f0 : Bf (F := F) c M0) (f1 : Bf (F := F) c M1) (W : Bf (F := F) c M9) :
    (trip0 M0 h0 M1 h1 M2 h2 M3 h3 M4 h4 M5 h5 M6 h6 M7 h7 M8 h8 M9 h9 M10 h10 v5 v9 v11 v13 c f0 f1 W).1.2
      = 0#1 ||| Scalar.cmpf .ole (mse (ldW M9 c W) (parts M0 M1 (k2_pay22 v5) (k2_pay23 v9) (k2_pay24 v11) (k2_pay25 v13) c f0 f1 (ldW M9 c W)))
          (Scalar.ofBits .f32 0x322BCC77#32) := rfl

/-- The iterate the last step stores. -/
theorem run2_fst (c : Dev nD) (f0 : Bf (F := F) c M0) (f1 : Bf (F := F) c M1) (f2 : Bf (F := F) c M2) (f3 : Bf (F := F) c M3) (f4 : Bf (F := F) c M4) (f5 : Bf (F := F) c M5) (f6 : Bf (F := F) c M6) (f7 : Bf (F := F) c M7) :
    (run2 M0 h0 M1 h1 M2 h2 M3 h3 M4 h4 M5 h5 M6 h6 M7 h7 M8 h8 M9 h9 M10 h10 c f0 f1 f2 f3 f4 f5 f6 f7).1
      = M8.view.writes (Elt F) M8.view.junk [⟨Rect.unit ![0, 0] S64x4096.size inb_S64x4096_S64x4096_0_0,
          M10.view.readCov
            (four (parts M0 M1 (k2_pay22 (ld6 M6 c f6)) (k2_pay23 (ld5 M5 c f5)) (k2_pay24 (ld3 M3 c f3)) (k2_pay25 (ld4 M4 c f4)) c f0 f1
                (ldW M9 c (st M0 h0 M1 h1 M2 h2 M3 h3 M4 h4 M5 h5 M6 h6 M7 h7 M8 h8 M9 h9 M10 h10 (ld6 M6 c f6) (ld5 M5 c f5) (ld3 M3 c f3) (ld4 M4 c f4) c f0 f1 (w0 M7 M9 c f7)
                  (Scf.trips k2_t1_loop.lb k2_t1_loop.ub k2_t1_loop.st)).1)))
            (Rect.unit ![0, 0] S64x4096.size inb_S64x4096_S64x4096_0_0).toLoadRect⟩] := by
  generalize hR : M8.view.writes (Elt F) M8.view.junk _ = R
  unfold run2
  dsimp only
  unfold run2.sl.H8_1 run2.sl.v132 run2.sl.H10_4
  rewrite [four_congr (x := parts M0 M1 (k2_pay22 (ld6 M6 c f6)) (k2_pay23 (ld5 M5 c f5)) (k2_pay24 (ld3 M3 c f3)) (k2_pay25 (ld4 M4 c f4)) c f0 f1
                (ldW M9 c (st M0 h0 M1 h1 M2 h2 M3 h3 M4 h4 M5 h5 M6 h6 M7 h7 M8 h8 M9 h9 M10 h10 (ld6 M6 c f6) (ld5 M5 c f5) (ld3 M3 c f3) (ld4 M4 c f4) c f0 f1 (w0 M7 M9 c f7)
                  (Scf.trips k2_t1_loop.lb k2_t1_loop.ub k2_t1_loop.st)).1)) ?_ ?_ ?_ ?_]
  · exact hR
  · rfl
  · rfl
  · rfl
  · rfl

end AnyFloat

end Cert.Proof.Val

end
-- ==== Proof.Val.StepIdeal.lean ====
module

public import proofs.«01_k».proof.Proof.Val.Step

@[expose] public section

noncomputable section

namespace Cert.Proof.Val

open Cert.KernelIdeal Cert.KernelIdeal.Gen Cert.Proof.KI
open Idealize.ShloMosaic Idealize.ShloMosaic.ValueIdx

/-- A tile that starts `o` columns in holds the columns from `o` on. -/
theorem tile_cut {a n w : ℕ} (o : ℕ) (ho : o + w ≤ n) (f : Fin a → Fin n → ℝ) (y : (⟨2, ![a, n]⟩ : Shape).Idx) (x : (⟨2, ![a, w]⟩ : Shape).Idx)
    (h : ∀ k, (y k : ℕ) = (![0, o] : Fin 2 → ℕ) k + x k) : m2 (cut o ho f) x = m2 f y := by
  have e0 : (x 0 : ℕ) = y 0 := by have := h 0; simp at this; omega
  have e1 : o + (x 1 : ℕ) = y 1 := by have := h 1; simp at this; omega
  show ((f (x 0) ⟨o + (x 1).val, _⟩ : ℝ) : EReal) = ((f (y 0) (y 1) : ℝ) : EReal)
  congr 2
  · exact Fin.ext e0
  · exact Fin.ext e1

/-- Four chunks that are the four column ranges of one matrix make up that matrix. -/
theorem canon_four (x : Fin 4 → FVec Ideal S64x1024 .f32) (f : Fin 64 → Fin 4096 → ℝ) (e0 : x 0 = m2 (cut 0 (by omega) f)) (e1 : x 1 = m2 (cut 1024 (by omega) f))
    (e2 : x 2 = m2 (cut 2048 (by omega) f)) (e3 : x 3 = m2 (cut 3072 (by omega) f)) : View.canon (four x) = m2 f := by
  unfold four
  simp only [shapeCast_self, e0, e1, e2, e3]
  funext y
  refine View.canon_eq_of_allAt _ _ _ ?_ ?_
  · exact View.cover_of_tiledL (s := S64x4096) _ ![64, 1024] (by rfl) y
  exact View.allAt_cons_unit _ _ _ _ _ (fun x h => tile_cut _ _ _ y x h) (View.allAt_cons_unit _ _ _ _ _ (fun x h => tile_cut _ _ _ y x h)
    (View.allAt_cons_unit _ _ _ _ _ (fun x h => tile_cut _ _ _ y x h) (View.allAt_cons_unit _ _ _ _ _ (fun x h => tile_cut _ _ _ y x h) (View.allAt_nil _ _))))

/-- Both offsets are zero. -/
theorem hz : (![0, 0] : Fin 2 → Nat) = fun _ => 0 := funext fun i => match i with
  | ⟨0, _⟩ => rfl
  | ⟨1, _⟩ => rfl

/-- A load of every element of what was stored piece by piece. -/
theorem readCov_whole (v : View sig .tc .vmem S64x4096 .f32) (L : List (View.Piece (Elt Ideal) S64x4096 .f32)) :
    v.readCov L (Rect.unit ![0, 0] S64x4096.size inb_S64x4096_S64x4096_0_0).toLoadRect = View.canon L :=
  (View.readCov_eq_canon' v L _).trans (View.ld_unit_zero (S := S64x4096) hz _ _)

/-- The reciprocal row. -/
theorem recip_m2 (l : Fin 1 → Fin 4096 → ℝ) (hl : ∀ i j, l i j ≠ 0) : k2_pay22 (F := Ideal) (m2 l) = m2 fun i j => 1 / l i j := by
  unfold k2_pay22
  simp only [shapeCast_self]
  rw [broadcast_m2 _ (1 : ℝ) (by simp [Ideal.ofBits, Ideal.ieee, -EReal.coe_mul]; norm_num), divf_m2 _ _ hl]

/-- The row of squared changes of one more chunk. -/
theorem addSq_m2 (o : ℕ) (hs) (ho : o + 1024 ≤ 4096) (w n : Fin 64 → Fin 4096 → ℝ) (r : Fin 1 → Fin 1024 → ℝ) :
    addSq (F := Ideal) o hs (m2 w) (m2 (cut o ho n)) (m2 r)
      = m2 fun _ j => r 0 j + ∑ i, (cut o ho n i j - cut o ho w i j) * (cut o ho n i j - cut o ho w i j) := by
  unfold addSq
  rw [slice_m2 w hs ho, subf_m2, mulf_m2]
  refine (congrArg (addf (m2 r)) (colsum_m2 _ _ _ _ _)).trans ?_
  rw [addf_m2]
  exact ext2 fun i j => by rw [Subsingleton.elim i 0]; rfl

/-- The total of a real row. -/
theorem total_m2 (r : Fin 1 → Fin 1024 → ℝ) : total (F := Ideal) (m2 r) = ((∑ j, r 0 j : ℝ) : EReal) := by
  unfold total
  refine (Ideal.multiReduction_add_total _ 0x00000000#32 reduces_S1x1x1024_S1 (fun b => by fin_cases b; rfl) (.inl rfl) rfl _).trans ?_
  refine (Equiv.sum_comp (Shape.reshapeEquiv shapeCasts_S1x1024_S1x1x1024) (m2 r)).trans ?_
  rw [ValueIdx.sum_idx2]
  simp only [m2_ix2, coe_sum, Fin.sum_univ_one]

/-- A sum over all columns, chunk by chunk. -/
theorem sum_cut4 (g : Fin 4096 → ℝ) :
    (∑ j : Fin 1024, ((((0 + g ⟨0 + j.val, by omega⟩) + g ⟨1024 + j.val, by omega⟩) + g ⟨2048 + j.val, by omega⟩) + g ⟨3072 + j.val, by omega⟩)) = ∑ j, g j := by
  have h3 : ∑ j : Fin 4096, g j = (∑ j : Fin 3072, g ⟨j.val, by omega⟩) + ∑ j : Fin 1024, g ⟨3072 + j.val, by omega⟩ := Fin.sum_univ_add (a := 3072) (b := 1024) g
  have h2 : ∑ j : Fin 3072, g ⟨j.val, by omega⟩ = (∑ j : Fin 2048, g ⟨j.val, by omega⟩) + ∑ j : Fin 1024, g ⟨2048 + j.val, by omega⟩ :=
    Fin.sum_univ_add (a := 2048) (b := 1024) fun j : Fin 3072 => g ⟨j.val, by omega⟩
  have h1 : ∑ j : Fin 2048, g ⟨j.val, by omega⟩ = (∑ j : Fin 1024, g ⟨j.val, by omega⟩) + ∑ j : Fin 1024, g ⟨1024 + j.val, by omega⟩ :=
    Fin.sum_univ_add (a := 1024) (b := 1024) fun j : Fin 2048 => g ⟨j.val, by omega⟩
  rw [h3, h2, h1]
  simp only [Finset.sum_add_distrib, zero_add]

/-- The mean square of a step's change. -/
theorem mse_m2 (w n : Fin 64 → Fin 4096 → ℝ) (x : Fin 4 → FVec Ideal S64x1024 .f32) (e0 : x 0 = m2 (cut 0 (by omega) n)) (e1 : x 1 = m2 (cut 1024 (by omega) n))
    (e2 : x 2 = m2 (cut 2048 (by omega) n)) (e3 : x 3 = m2 (cut 3072 (by omega) n)) :
    mse (F := Ideal) (m2 w) x = (((∑ j, ∑ i, (n i j - w i j) * (n i j - w i j)) / 262144 : ℝ) : EReal) := by
  unfold mse
  rw [e0, e1, e2, e3, broadcast_m2 _ _ ofBits_zero, addSq_m2, addSq_m2, addSq_m2, addSq_m2, total_m2]
  have hc : Ideal.ofBits .f32 0x48800000#32 = ((262144 : ℝ) : EReal) := by simp [Ideal.ofBits, Ideal.ieee, -EReal.coe_mul]; norm_num
  refine (congrArg (Ideal.div _) hc).trans ((div_coe_coe _ _ (by norm_num)).trans ?_)
  rw [← sum_cut4 fun j => ∑ i, (n i j - w i j) * (n i j - w i j)]
  rfl

/-- The word of the tolerance. -/
theorem ofBits_tol : Ideal.ofBits .f32 0x322BCC77#32 = ((tol : ℝ) : EReal) := by
  simp [Ideal.ofBits, Ideal.ieee, tol, -EReal.coe_mul]; norm_num

open Classical in
/-- The test against the tolerance. -/
theorem cmp_tol (x : ℝ) : (0#1 : BitVec 1) ||| Ideal.cmp .ole (x : EReal) (Ideal.ofBits .f32 0x322BCC77#32) = if x ≤ tol then 1#1 else 0#1 := by
  rw [ofBits_tol]
  unfold Ideal.cmp
  simp only [EReal.coe_le_coe_iff]
  by_cases h : x ≤ tol <;> simp [h]

variable (M0 : Memref sig .tc .vmem S4096x4096 .fp8e4m3) (h0 : M0.IsWhole)
variable (M1 : Memref sig .tc .vmem S512x4096 .bf16) (h1 : M1.IsWhole)
variable (M2 : Memref sig .tc .vmem S64x512 .f32) (h2 : M2.IsWhole)
variable (M3 : Memref sig .tc .vmem S64x512 .bf16) (h3 : M3.IsWhole)
variable (M4 : Memref sig .tc .vmem S512x64 .bf16) (h4 : M4.IsWhole)
variable (M5 : Memref sig .tc .vmem S64x4096 .f32) (h5 : M5.IsWhole)
variable (M6 : Memref sig .tc .vmem S1x4096 .f32) (h6 : M6.IsWhole)
variable (M7 : Memref sig .tc .vmem S64x4096 .f32) (h7 : M7.IsWhole)
variable (M8 : Memref sig .tc .vmem S64x4096 .f32) (h8 : M8.IsWhole)
variable (M9 : Memref sig .tc .vmem S64x4096 .f32) (h9 : M9.IsWhole)
variable (M10 : Memref sig .tc .vmem S64x4096 .f32) (h10 : M10.IsWhole)

section Fixed

variable (c : Dev nD) (f0 : Bf (F := Ideal) c M0) (f1 : Bf (F := Ideal) c M1)
variable (q : Fin 1 → Fin 4096 → ℝ) (V : Fin 64 → Fin 4096 → ℝ) (H : Fin 64 → Fin 512 → ℝ) (T : Fin 512 → Fin 64 → ℝ)
  (LT : Fin 4096 → Fin 4096 → ℝ) (mT : Fin 512 → Fin 4096 → ℝ)
variable (e0 : M0.view.read (Elt Ideal) f0 = m2 LT) (e1 : M1.view.read (Elt Ideal) f1 = m2 mT)
include e0 e1

/-- The four chunks of a step are the four column ranges of the step. -/
theorem parts_m2 (W : Fin 64 → Fin 4096 → ℝ) :
    parts (F := Ideal) M0 M1 (m2 q) (m2 V) (m2 H) (m2 T) c f0 f1 (m2 W) 0 = m2 (cut 0 (by omega) (kstp q V H T LT mT W))
    ∧ parts (F := Ideal) M0 M1 (m2 q) (m2 V) (m2 H) (m2 T) c f0 f1 (m2 W) 1 = m2 (cut 1024 (by omega) (kstp q V H T LT mT W))
    ∧ parts (F := Ideal) M0 M1 (m2 q) (m2 V) (m2 H) (m2 T) c f0 f1 (m2 W) 2 = m2 (cut 2048 (by omega) (kstp q V H T LT mT W))
    ∧ parts (F := Ideal) M0 M1 (m2 q) (m2 V) (m2 H) (m2 T) c f0 f1 (m2 W) 3 = m2 (cut 3072 (by omega) (kstp q V H T LT mT W)) := by
  have hL : ∀ (o : ℕ) (inb) (ho : o + 1024 ≤ 4096), ldL M0 o inb c f0 = m2 (cut o ho LT) := fun o inb ho => by
    show View.ld (M0.view.read (Elt Ideal) f0) _ = _; rw [e0, View.ld_unit]; exact slice_m2 _ _ _
  have hM : ∀ (o : ℕ) (inb) (ho : o + 1024 ≤ 4096), ldM M1 o inb c f1 = m2 (cut o ho mT) := fun o inb ho => by
    show View.ld (M1.view.read (Elt Ideal) f1) _ = _; rw [e1, View.ld_unit]; exact slice_m2 _ _ _
  unfold parts
  rw [hL 0 _ (by omega), hL 1024 _ (by omega), hL 2048 _ (by omega), hL 3072 _ (by omega), hM 0 _ (by omega), hM 1024 _ (by omega), hM 2048 _ (by omega), hM 3072 _ (by omega)]
  exact ⟨chunk_m2 .., chunk_m2 .., chunk_m2 .., chunk_m2 ..⟩

open Classical in
/-- A trip at real contents: the step, and the flag when the mean square of the change is small. -/
theorem trip0_m2 (l : Fin 1 → Fin 4096 → ℝ) (hl : ∀ i j, l i j ≠ 0) (W : Bf (F := Ideal) c M9) (w : Fin 64 → Fin 4096 → ℝ) (hW : M9.view.read (Elt Ideal) W = m2 w) :
    M9.view.read (Elt Ideal) (trip0 M0 h0 M1 h1 M2 h2 M3 h3 M4 h4 M5 h5 M6 h6 M7 h7 M8 h8 M9 h9 M10 h10 (m2 l) (m2 V) (m2 H) (m2 T) c f0 f1 W).1.1
        = m2 (kstp (fun i j => 1 / l i j) V H T LT mT w)
    ∧ (trip0 M0 h0 M1 h1 M2 h2 M3 h3 M4 h4 M5 h5 M6 h6 M7 h7 M8 h8 M9 h9 M10 h10 (m2 l) (m2 V) (m2 H) (m2 T) c f0 f1 W).1.2
        = if (∑ j, ∑ i, (kstp (fun i j => 1 / l i j) V H T LT mT w i j - w i j) * (kstp (fun i j => 1 / l i j) V H T LT mT w i j - w i j)) / 262144 ≤ tol then 1#1 else 0#1 := by
  have hw : ldW M9 c W = m2 w := by show View.ld (M9.view.read (Elt Ideal) W) _ = _; rw [hW]; exact View.ld_unit_zero (S := S64x4096) hz _ _
  obtain ⟨p0, p1, p2, p3⟩ := parts_m2 M0 M1 c f0 f1 (fun i j => 1 / l i j) V H T LT mT e0 e1 w
  rw [trip0_fst, trip0_snd, hw, recip_m2 l hl]
  simp only [k2_pay23, k2_pay24, k2_pay25, k2_pay28, shapeCast_self]
  rw [mse_m2 w _ _ p0 p1 p2 p3, readCov_whole, canon_four _ _ p0 p1 p2 p3, View.read_writes_junk_eq_canon]
  exact ⟨View.canon_unit_zero (S := S64x4096) hz _ _, cmp_tol _⟩

end Fixed

end Cert.Proof.Val

end
-- ==== Proof.Val.Loop.lean ====
module

public import proofs.«01_k».proof.Proof.Val.StepIdeal

@[expose] public section

noncomputable section

namespace Cert.Proof.Val

open Cert.KernelIdeal Cert.KernelIdeal.Gen Cert.Proof.KI
open Idealize.ShloMosaic Idealize.ShloMosaic.ValueIdx

variable (M : Fin 4096 → Fin 512 → ℝ) (H : Fin 64 → Fin 512 → ℝ) (L : Fin 4096 → Fin 4096 → ℝ) (Z : Fin 4096 → Fin 512 → ℝ)

/-- The kernel's step is the problem's step, transposed: it multiplies by the reciprocal and scales the graph term by 256 and back. -/
theorem kstp_eq (W : Fin 4096 → Fin 64 → ℝ) :
    kstp (fun _ j => 1 / lam M H j) (fun r j => rhs M H Z j r) H (fun c s => H s c) (fun k j => 256 * L j k) (fun c j => M j c) (fun r j => W j r)
      = fun r j => stp M H L Z W j r := by
  funext r j
  unfold kstp stp
  rw [left_eq, app_eq, mul_one_div, show ltr / 256 * ∑ k, W k r * (256 * L j k) = ltr * ∑ k, L j k * W k r by
    rw [Finset.mul_sum, Finset.mul_sum]; exact Finset.sum_congr rfl fun k _ => by ring]
  congr 3
  ring

variable (M0 : Memref sig .tc .vmem S4096x4096 .fp8e4m3) (h0 : M0.IsWhole)
variable (M1 : Memref sig .tc .vmem S512x4096 .bf16) (h1 : M1.IsWhole)
variable (M2 : Memref sig .tc .vmem S64x512 .f32) (h2 : M2.IsWhole)
variable (M3 : Memref sig .tc .vmem S64x512 .bf16) (h3 : M3.IsWhole)
variable (M4 : Memref sig .tc .vmem S512x64 .bf16) (h4 : M4.IsWhole)
variable (M5 : Memref sig .tc .vmem S64x4096 .f32) (h5 : M5.IsWhole)
variable (M6 : Memref sig .tc .vmem S1x4096 .f32) (h6 : M6.IsWhole)
variable (M7 : Memref sig .tc .vmem S64x4096 .f32) (h7 : M7.IsWhole)
variable (M8 : Memref sig .tc .vmem S64x4096 .f32) (h8 : M8.IsWhole)
variable (M9 : Memref sig .tc .vmem S64x4096 .f32) (h9 : M9.IsWhole)
variable (M10 : Memref sig .tc .vmem S64x4096 .f32) (h10 : M10.IsWhole)

variable (c : Dev nD) (f0 : Bf (F := Ideal) c M0) (f1 : Bf (F := Ideal) c M1)
variable (e0 : M0.view.read (Elt Ideal) f0 = m2 fun k j => 256 * L j k) (e1 : M1.view.read (Elt Ideal) f1 = m2 fun c j => M j c)
variable (hl : ∀ i, lam M H i ≠ 0)
include e0 e1 hl

/-- The iterate and the flag before every trip are the problem's. -/
theorem st_m2 (W0 : Bf (F := Ideal) c M9) (W : Fin 4096 → Fin 64 → ℝ) (hW : M9.view.read (Elt Ideal) W0 = m2 fun r j => W j r) (n : ℕ) :
    M9.view.read (Elt Ideal) (st M0 h0 M1 h1 M2 h2 M3 h3 M4 h4 M5 h5 M6 h6 M7 h7 M8 h8 M9 h9 M10 h10 (m2 fun _ j => lam M H j) (m2 fun r j => rhs M H Z j r) (m2 H) (m2 fun c s => H s c) c f0 f1 W0 n).1
        = m2 (fun r j => (its M H L Z W n).1 j r)
    ∧ (st M0 h0 M1 h1 M2 h2 M3 h3 M4 h4 M5 h5 M6 h6 M7 h7 M8 h8 M9 h9 M10 h10 (m2 fun _ j => lam M H j) (m2 fun r j => rhs M H Z j r) (m2 H) (m2 fun c s => H s c) c f0 f1 W0 n).2
        = (its M H L Z W n).2 := by
  induction n with
  | zero => rw [st_zero]; exact ⟨hW, rfl⟩
  | succ n ih =>
    rw [st_succ]
    generalize st M0 h0 M1 h1 M2 h2 M3 h3 M4 h4 M5 h5 M6 h6 M7 h7 M8 h8 M9 h9 M10 h10 (m2 fun _ j => lam M H j) (m2 fun r j => rhs M H Z j r) (m2 H) (m2 fun c s => H s c) c f0 f1 W0 n = R at ih ⊢
    obtain ⟨i1, i2⟩ := ih
    rcases (show ∀ b : BitVec 1, b = 0#1 ∨ b = 1#1 by decide) R.2 with h | h
    · rw [nxt_lo (h := h)]
      have := trip0_m2 M0 h0 M1 h1 M2 h2 M3 h3 M4 h4 M5 h5 M6 h6 M7 h7 M8 h8 M9 h9 M10 h10 c f0 f1 (fun r j => rhs M H Z j r) H (fun c s => H s c) _ _ e0 e1
        (fun _ j => lam M H j) (fun _ j => hl j) R.1 _ i1
      rw [kstp_eq] at this
      rw [show its M H L Z W (n + 1) = adv M H L Z (its M H L Z W n) from rfl, adv, if_pos (i2.symm.trans h)]
      exact this
    · rw [nxt_hi (h := h), show its M H L Z W (n + 1) = adv M H L Z (its M H L Z W n) from rfl, adv, if_neg (by rw [← i2, h]; decide)]
      exact ⟨i1, i2⟩

/-- The main kernel's output at real inputs. -/
theorem run2_m2 (f2 : Bf (F := Ideal) c M2) (f3 : Bf (F := Ideal) c M3) (f4 : Bf (F := Ideal) c M4) (f5 : Bf (F := Ideal) c M5) (f6 : Bf (F := Ideal) c M6) (f7 : Bf (F := Ideal) c M7)
    (e3 : M3.view.read (Elt Ideal) f3 = m2 H) (e4 : M4.view.read (Elt Ideal) f4 = m2 fun c s => H s c) (e5 : M5.view.read (Elt Ideal) f5 = m2 fun r j => rhs M H Z j r)
    (e6 : M6.view.read (Elt Ideal) f6 = m2 fun _ j => lam M H j) (W : Fin 4096 → Fin 64 → ℝ) (e7 : M7.view.read (Elt Ideal) f7 = m2 fun r j => W j r) :
    M8.view.read (Elt Ideal) (run2 M0 h0 M1 h1 M2 h2 M3 h3 M4 h4 M5 h5 M6 h6 M7 h7 M8 h8 M9 h9 M10 h10 c f0 f1 f2 f3 f4 f5 f6 f7).1 = m2 fun r j => res M H L Z W j r := by
  have l3 : ld3 M3 c f3 = m2 H := by show View.ld (M3.view.read (Elt Ideal) f3) _ = _; rw [e3]; exact View.ld_unit_zero (S := S64x512) hz _ _
  have l4 : ld4 M4 c f4 = m2 fun c s => H s c := by show View.ld (M4.view.read (Elt Ideal) f4) _ = _; rw [e4]; exact View.ld_unit_zero (S := S512x64) hz _ _
  have l5 : ld5 M5 c f5 = m2 fun r j => rhs M H Z j r := by show View.ld (M5.view.read (Elt Ideal) f5) _ = _; rw [e5]; exact View.ld_unit_zero (S := S64x4096) hz _ _
  have l6 : ld6 M6 c f6 = m2 fun _ j => lam M H j := by show View.ld (M6.view.read (Elt Ideal) f6) _ = _; rw [e6]; exact View.ld_unit_zero (S := S1x4096) hz _ _
  have l7 : M9.view.read (Elt Ideal) (w0 M7 M9 c f7) = m2 fun r j => W j r := by
    rw [View.read_writes_junk_eq_canon, k2_pay21]
    refine (View.canon_unit_zero (S := S64x4096) hz _ _).trans ?_
    rw [shapeCast_self, shapeCast_self]
    show View.ld (M7.view.read (Elt Ideal) f7) _ = _; rw [e7]; exact View.ld_unit_zero (S := S64x4096) hz _ _
  have hs := (st_m2 M H L Z M0 h0 M1 h1 M2 h2 M3 h3 M4 h4 M5 h5 M6 h6 M7 h7 M8 h8 M9 h9 M10 h10 c f0 f1 e0 e1 hl (w0 M7 M9 c f7) W l7 (Scf.trips k2_t1_loop.lb k2_t1_loop.ub k2_t1_loop.st)).1
  rw [run2_fst, l3, l4, l5, l6]
  generalize (st M0 h0 M1 h1 M2 h2 M3 h3 M4 h4 M5 h5 M6 h6 M7 h7 M8 h8 M9 h9 M10 h10 (m2 fun _ j => lam M H j) (m2 fun r j => rhs M H Z j r) (m2 H) (m2 fun c s => H s c) c f0 f1 (w0 M7 M9 c f7)
    (Scf.trips k2_t1_loop.lb k2_t1_loop.ub k2_t1_loop.st)).1 = S at hs ⊢
  rw [show Scf.trips k2_t1_loop.lb k2_t1_loop.ub k2_t1_loop.st = 19 by decide] at hs
  have hw : ldW M9 c S = m2 fun r j => (its M H L Z W 19).1 j r := by show View.ld (M9.view.read (Elt Ideal) S) _ = _; rw [hs]; exact View.ld_unit_zero (S := S64x4096) hz _ _
  obtain ⟨p0, p1, p2, p3⟩ := parts_m2 M0 M1 c f0 f1 (fun _ j => 1 / lam M H j) (fun r j => rhs M H Z j r) H (fun c s => H s c) _ _ e0 e1 (fun r j => (its M H L Z W 19).1 j r)
  rw [kstp_eq] at p0 p1 p2 p3
  rw [hw, recip_m2 _ fun _ j => hl j]
  simp only [k2_pay23, k2_pay24, k2_pay25, shapeCast_self]
  rw [readCov_whole, canon_four _ _ p0 p1 p2 p3, View.read_writes_junk_eq_canon]
  exact View.canon_unit_zero (S := S64x4096) hz _ _

end Cert.Proof.Val

end
-- ==== Proof.Val.Setup.lean ====
module

public import proofs.«01_k».proof.Proof.KI.Body1
public import proofs.«01_k».proof.Proof.Val.StepIdeal

@[expose] public section

noncomputable section

namespace Cert.Proof.Val

open Cert.KernelIdeal Cert.KernelIdeal.Gen Cert.Proof.KI
open Idealize.ShloMosaic Idealize.ShloMosaic.ValueIdx

variable (M0 : Memref sig .tc .vmem S4096x512 .i32) (h0 : M0.IsWhole)
variable (M1 : Memref sig .tc .vmem S4096x512 .f32) (h1 : M1.IsWhole)
variable (M2 : Memref sig .tc .vmem S64x512 .f32) (h2 : M2.IsWhole)
variable (M3 : Memref sig .tc .vmem S64x512 .fp8e4m3) (h3 : M3.IsWhole)
variable (M4 : Memref sig .tc .vmem S512x64 .fp8e4m3) (h4 : M4.IsWhole)
variable (M5 : Memref sig .tc .vmem S512x4096 .bf16) (h5 : M5.IsWhole)
variable (M6 : Memref sig .tc .vmem S64x4096 .f32) (h6 : M6.IsWhole)
variable (M7 : Memref sig .tc .vmem S1x4096 .f32) (h7 : M7.IsWhole)

variable (M : Fin 4096 → Fin 512 → ℝ) (H : Fin 64 → Fin 512 → ℝ) (Z : Fin 4096 → Fin 512 → ℝ)

section Payloads

variable (X : Vec Ideal S4096x512 .i32) (hX : sitofp (F := Ideal) .f32 X = m2 M)
include hX

/-- The mask transposed. -/
theorem pay4_m2 : k1_pay4 (F := Ideal) X = m2 fun c j => M j c := by
  unfold k1_pay4 k1_pay3
  rw [hX]; exact transpose_m2 _ _

/-- The right-hand side, transposed. -/
theorem pay6_m2 : k1_pay6 (F := Ideal) (m2 H) X (m2 Z) = m2 fun r j => rhs M H Z j r := by
  unfold k1_pay6 k1_pay3
  dsimp only
  rw [hX, mulf_m2, transpose_m2, show dot_S4096x512_S512x64_S4096x64_1_0_0_1_n_n = DotDims.plain 4096 512 64 from rfl, matmul_plain_m2, transpose_m2]
  rfl

/-- The matrices applied to the columns of an iterate. -/
theorem apply_m2 (v : Fin 64 → Fin 4096 → ℝ) :
    addf (F := Ideal) (φ := .f32) (matmul (F := Ideal) (φ₁ := .f32) (φ₂ := .f32) dot_S64x512_S512x4096_S64x4096_1_0_0_1_n_n none (m2 H)
      (mulf (F := Ideal) (φ := .f32) (matmul (F := Ideal) (φ₁ := .f32) (φ₂ := .f32) dot_S512x64_S64x4096_S512x4096_1_0_0_1_n_n none (m2 fun c s => H s c) (m2 v) (constant S512x4096 .f32 0x00000000#32)) (k1_pay4 (F := Ideal) X)) (constant S64x4096 .f32 0x00000000#32))
      (mulf (F := Ideal) (φ := .f32) (broadcast S64x4096 (Scalar.ofBits .f32 0x3DCCCCCD#32)) (m2 v))
      = m2 fun r j => app M H j (fun s => v s j) r := by
  rw [pay4_m2 M X hX, show dot_S64x512_S512x4096_S64x4096_1_0_0_1_n_n = DotDims.plain 64 512 4096 from rfl, show dot_S512x64_S64x4096_S512x4096_1_0_0_1_n_n = DotDims.plain 512 64 4096 from rfl,
    matmul_plain_m2, mulf_m2, matmul_plain_m2, broadcast_m2 _ _ ofBits_al, mulf_m2, addf_m2]
  simp only [app_eq]

variable (hM : ∀ i c, 0 ≤ M i c)
include hM

/-- The first iterate. -/
theorem pay7_m2 : k1_pay7 (F := Ideal) (m2 H) X = m2 fun r j => pw M H j 0 r := by
  unfold k1_pay7
  dsimp only
  rw [pay4_m2 M X hX, show dot_S64x512_S512x4096_S64x4096_1_0_0_1_n_n = DotDims.plain 64 512 4096 from rfl, mulf_m2, matmul_plain_m2, broadcast_m2 _ _ ofBits_al, addf_m2]
  simp only [← A_diag, truncf_id]
  refine (congrArg (fun y => divf (F := Ideal) (φ := .f32) (m2 fun r j => A M H j r r) (broadcastTo S64x4096 y broadcasts_S1x4096_S64x4096)) (colmax_m2 _ _ _ _ _)).trans ?_
  rw [broadcastTo_m2]
  exact divf_m2 _ _ fun i j => ne_of_gt (top_pos (w := fun r => A M H j r r) i (diag_pos H hM j i))

/-- The next iterate. -/
theorem pay8_m2 (k : ℕ) : k1_pay8 (F := Ideal) (m2 H) (m2 fun c s => H s c) X (m2 fun r j => pw M H j k r) = m2 fun r j => pw M H j (k + 1) r := by
  unfold k1_pay8 k1_pay2
  simp only [truncf_id, extf_id, shapeCast_self]
  have e := apply_m2 M H X hX fun r j => pw M H j k r
  refine (congrArg (fun y => divf (F := Ideal) (φ := .f32) y (broadcastTo S64x4096 (shapeCast S1x4096 (multiReduction .maximumf [0] S4096 (absf y) 0xFF800000#32 reduces_S64x4096_S4096 (.inl rfl) rfl) shapeCasts_S4096_S1x4096) broadcasts_S1x4096_S64x4096)) e).trans ?_
  rw [absf_m2]
  refine (congrArg (fun y => divf (F := Ideal) (φ := .f32) (m2 fun r j => app M H j (fun s => pw M H j k s) r) (broadcastTo S64x4096 y broadcasts_S1x4096_S64x4096)) (colmax_m2 _ _ _ _ _)).trans ?_
  rw [broadcastTo_m2]
  exact divf_m2 _ _ fun i j => ne_of_gt (app_top_pos H hM j _ (pw_pos H hM j k))

/-- The Rayleigh quotients. -/
theorem pay1_m2 : k1_pay1 (F := Ideal) (m2 fun r j => pw M H j 32 r) (k1_pay10 (F := Ideal) (m2 H) (m2 fun c s => H s c) X (m2 fun r j => pw M H j 32 r)) = m2 fun _ j => lam M H j := by
  have e : k1_pay10 (F := Ideal) (m2 H) (m2 fun c s => H s c) X (m2 fun r j => pw M H j 32 r) = m2 fun r j => app M H j (pw M H j 32) r := by
    unfold k1_pay10 k1_pay2 k1_pay9
    simp only [extf_id, shapeCast_self]
    exact apply_m2 M H X hX fun r j => pw M H j 32 r
  rw [e]
  unfold k1_pay1
  rw [mulf_m2, mulf_m2]
  refine (congrArg₂ (divf (F := Ideal) (φ := .f32)) (colsum_m2 _ _ _ _ _) (colsum_m2 _ _ _ _ _)).trans ?_
  exact divf_m2 _ _ fun i j => ne_of_gt (pw_pos H hM j 32)

end Payloads

variable (c : Dev nD) (f0 : Bf (F := Ideal) c M0) (f1 : Bf (F := Ideal) c M1) (f2 : Bf (F := Ideal) c M2) (f3 : Bf (F := Ideal) c M3) (f4 : Bf (F := Ideal) c M4)

/-- A fold whose trips all do the same is that many applications. -/
theorem fold_same {σ : Type} {n : ℕ} (f : σ → σ) (x : σ) : Scf.fold (n := n) (fun _ a => f a) x = f^[n] x := by
  rw [Scf.fold_eq]
  exact (List.foldl_const f x (List.finRange n)).trans (by rw [List.length_finRange])

variable (hM : ∀ i c, 0 ≤ M i c) (e0 : sitofp (F := Ideal) .f32 (M0.view.read (Elt Ideal) f0) = m2 M) (e1 : M1.view.read (Elt Ideal) f1 = m2 Z)
  (e2 : M2.view.read (Elt Ideal) f2 = m2 H) (e3 : M3.view.read (Elt Ideal) f3 = m2 H) (e4 : M4.view.read (Elt Ideal) f4 = m2 fun c s => H s c)

include e0 in
/-- The set-up kernel's first output is the mask transposed. -/
theorem run1_fst : M5.view.read (Elt Ideal) (run1 M0 h0 M1 h1 M2 h2 M3 h3 M4 h4 M5 h5 M6 h6 M7 h7 c f0 f1 f2 f3 f4).1.1 = m2 fun c j => M j c := by
  have l0 : View.readAt (Elt Ideal) M0.view (Rect.unit ![0, 0] S4096x512.size inb_S4096x512_S4096x512_0_0).toLoadRect f0 = M0.view.read (Elt Ideal) f0 := View.ld_unit_zero (S := S4096x512) hz _ _
  unfold run1
  dsimp only
  unfold run1.sl.H5_1
  rw [l0, View.read_writes_junk_eq_canon]
  refine (View.canon_unit_zero (S := S512x4096) hz _ _).trans ?_
  exact pay4_m2 M _ e0

include e0 e1 e2 in
/-- The second is the right-hand side transposed. -/
theorem run1_snd : M6.view.read (Elt Ideal) (run1 M0 h0 M1 h1 M2 h2 M3 h3 M4 h4 M5 h5 M6 h6 M7 h7 c f0 f1 f2 f3 f4).1.2.1 = m2 fun r j => rhs M H Z j r := by
  have l0 : View.readAt (Elt Ideal) M0.view (Rect.unit ![0, 0] S4096x512.size inb_S4096x512_S4096x512_0_0).toLoadRect f0 = M0.view.read (Elt Ideal) f0 := View.ld_unit_zero (S := S4096x512) hz _ _
  have l1 : View.readAt (Elt Ideal) M1.view (Rect.unit ![0, 0] S4096x512.size inb_S4096x512_S4096x512_0_0).toLoadRect f1 = m2 Z := (View.ld_unit_zero (S := S4096x512) hz _ _).trans e1
  have l2 : View.readAt (Elt Ideal) M2.view (Rect.unit ![0, 0] S64x512.size inb_S64x512_S64x512_0_0).toLoadRect f2 = m2 H := (View.ld_unit_zero (S := S64x512) hz _ _).trans e2
  unfold run1
  dsimp only
  unfold run1.sl.H6_1
  rw [l0, l1, l2, View.read_writes_junk_eq_canon]
  refine (View.canon_unit_zero (S := S64x4096) hz _ _).trans ?_
  exact pay6_m2 M H Z _ e0

include hM e0 e2 e3 e4 in
/-- The third is the row of Rayleigh quotients. -/
theorem run1_thd : M7.view.read (Elt Ideal) (run1 M0 h0 M1 h1 M2 h2 M3 h3 M4 h4 M5 h5 M6 h6 M7 h7 c f0 f1 f2 f3 f4).1.2.2 = m2 fun _ j => lam M H j := by
  have l0 : View.readAt (Elt Ideal) M0.view (Rect.unit ![0, 0] S4096x512.size inb_S4096x512_S4096x512_0_0).toLoadRect f0 = M0.view.read (Elt Ideal) f0 := View.ld_unit_zero (S := S4096x512) hz _ _
  have l2 : View.readAt (Elt Ideal) M2.view (Rect.unit ![0, 0] S64x512.size inb_S64x512_S64x512_0_0).toLoadRect f2 = m2 H := (View.ld_unit_zero (S := S64x512) hz _ _).trans e2
  have l3 : View.readAt (Elt Ideal) M3.view (Rect.unit ![0, 0] S64x512.size inb_S64x512_S64x512_0_0).toLoadRect f3 = m2 H := (View.ld_unit_zero (S := S64x512) hz _ _).trans e3
  have l4 : View.readAt (Elt Ideal) M4.view (Rect.unit ![0, 0] S512x64.size inb_S512x64_S512x64_0_0).toLoadRect f4 = m2 fun c s => H s c := (View.ld_unit_zero (S := S512x64) hz _ _).trans e4
  have hit : ∀ n, (fun a => k1_pay8 (F := Ideal) (m2 H) (m2 fun c s => H s c) (M0.view.read (Elt Ideal) f0) a)^[n] (k1_pay7 (m2 H) (M0.view.read (Elt Ideal) f0)) = m2 fun r j => pw M H j n r := fun n => by
    induction n with
    | zero => exact pay7_m2 M H _ e0 hM
    | succ n ih => rw [Function.iterate_succ_apply', ih]; exact pay8_m2 M H _ e0 hM n
  unfold run1
  dsimp only
  unfold run1.sl.H7_1 run1.sl.r_1 run1.sl.r_2 run1.sl.r
  rw [l0, l2, l3, l4, View.read_writes_junk_eq_canon]
  refine (View.canon_unit_zero (S := S1x4096) hz _ _).trans ?_
  rw [fold_same, hit, show k1_t1_loop.trips = 32 by decide]
  exact pay1_m2 M H _ e0 hM

end Cert.Proof.Val

end
-- ==== Proof.Val.Arrays.lean ====
module

public import proofs.«01_k».proof.Proof.KI.Records
public import proofs.«01_k».proof.Proof.Val.Loop
public import proofs.«01_k».proof.Proof.Val.Setup
public import Idealize.ShloMosaic.Lib.Pipeline.Value

@[expose] public section

noncomputable section

namespace Cert.Proof.Val

open Cert.KernelIdeal Cert.KernelIdeal.Gen Cert.Proof.KI
open Idealize.ShloMosaic Idealize.ShloMosaic.ValueIdx Idealize.ShloMosaic.TcCoe

section AnyFloat

variable {F : FTy → Type} [FloatOps F]
variable (V : Dev nD → Valuation τ sig (Elt F)) (c : Dev nD)

/-- Each input block of the set-up kernel is its whole array. -/
theorem stg1_eq : stg1_0 V c = V c (Proc.devRef .tc main_arg0) ∧ stg1_1 V c = V c (Proc.devRef .tc main_arg4) ∧ stg1_2 V c = V c (Proc.devRef .tc main_arg2)
    ∧ stg1_3 V c = V c (Proc.devRef .tc main_v3) ∧ stg1_4 V c = V c (Proc.devRef .tc main_v4) := by
  refine ⟨?_, ?_, ?_, ?_, ?_⟩
  · exact Memref.read_access_unit_zero (Elt F) main_arg0 (off := fun a => win1_0.index t1_0 a * main_arg0.ty.shape.size a) (funext fun a => by fin_cases a <;> decide) (fun a => by fin_cases a <;> decide) _
  · exact Memref.read_access_unit_zero (Elt F) main_arg4 (off := fun a => win1_1.index t1_0 a * main_arg4.ty.shape.size a) (funext fun a => by fin_cases a <;> decide) (fun a => by fin_cases a <;> decide) _
  · exact Memref.read_access_unit_zero (Elt F) main_arg2 (off := fun a => win1_2.index t1_0 a * main_arg2.ty.shape.size a) (funext fun a => by fin_cases a <;> decide) (fun a => by fin_cases a <;> decide) _
  · exact Memref.read_access_unit_zero (Elt F) main_v3 (off := fun a => win1_3.index t1_0 a * main_v3.ty.shape.size a) (funext fun a => by fin_cases a <;> decide) (fun a => by fin_cases a <;> decide) _
  · exact Memref.read_access_unit_zero (Elt F) main_v4 (off := fun a => win1_4.index t1_0 a * main_v4.ty.shape.size a) (funext fun a => by fin_cases a <;> decide) (fun a => by fin_cases a <;> decide) _

/-- Each input block of the main kernel is its whole array. -/
theorem stg2_eq : stg2_0 V c = V c (Proc.devRef .tc main_v0) ∧ stg2_1 V c = V c (Proc.devRef .tc main_v6_0) ∧ stg2_3 V c = V c (Proc.devRef .tc main_v1)
    ∧ stg2_4 V c = V c (Proc.devRef .tc main_v2) ∧ stg2_5 V c = V c (Proc.devRef .tc main_v6_1) ∧ stg2_6 V c = V c (Proc.devRef .tc main_v6_2) ∧ stg2_7 V c = V c (Proc.devRef .tc main_v5) := by
  refine ⟨?_, ?_, ?_, ?_, ?_, ?_, ?_⟩
  · exact Memref.read_access_unit_zero (Elt F) main_v0 (off := fun a => win2_0.index t2_0 a * main_v0.ty.shape.size a) (funext fun a => by fin_cases a <;> decide) (fun a => by fin_cases a <;> decide) _
  · exact Memref.read_access_unit_zero (Elt F) main_v6_0 (off := fun a => win2_1.index t2_0 a * main_v6_0.ty.shape.size a) (funext fun a => by fin_cases a <;> decide) (fun a => by fin_cases a <;> decide) _
  · exact Memref.read_access_unit_zero (Elt F) main_v1 (off := fun a => win2_3.index t2_0 a * main_v1.ty.shape.size a) (funext fun a => by fin_cases a <;> decide) (fun a => by fin_cases a <;> decide) _
  · exact Memref.read_access_unit_zero (Elt F) main_v2 (off := fun a => win2_4.index t2_0 a * main_v2.ty.shape.size a) (funext fun a => by fin_cases a <;> decide) (fun a => by fin_cases a <;> decide) _
  · exact Memref.read_access_unit_zero (Elt F) main_v6_1 (off := fun a => win2_5.index t2_0 a * main_v6_1.ty.shape.size a) (funext fun a => by fin_cases a <;> decide) (fun a => by fin_cases a <;> decide) _
  · exact Memref.read_access_unit_zero (Elt F) main_v6_2 (off := fun a => win2_6.index t2_0 a * main_v6_2.ty.shape.size a) (funext fun a => by fin_cases a <;> decide) (fun a => by fin_cases a <;> decide) _
  · exact Memref.read_access_unit_zero (Elt F) main_v5 (off := fun a => win2_7.index t2_0 a * main_v5.ty.shape.size a) (funext fun a => by fin_cases a <;> decide) (fun a => by fin_cases a <;> decide) _

/-- A whole array's index lies in a block that starts at zero and has the array's size. -/
theorem mem_whole {b : Ref sig .tc} {off size : Fin b.ty.shape.rank → ℕ} {inb} (h0 : off = fun _ => 0) (hs : size = b.ty.shape.size) (i : b.ty.shape.Idx) :
    i ∈ ((View.whole b).slice (Rect.unit off size inb)).set := by
  rw [View.set_slice_whole, Rect.mem_set_unit]
  subst h0 hs
  exact fun a => ⟨Nat.zero_le _, by rw [Nat.zero_add]; exact (i a).isLt⟩

/-- The main kernel's output array is what its run leaves. -/
theorem arr2_8 : (dat2 V c).arrAt 8 cfg2.N = out2_8 V c :=
  (dat2 V c).arrAt_eq_of_cover 8 (out2_8 V c) (fun t _ => by
      obtain rfl := fin_N2 t
      exact (Memref.read_access_unit_zero (Elt F) main_v7 (off := fun a => win2_8.index t2_0 a * main_v7.ty.shape.size a) (funext fun a => by fin_cases a <;> decide) (fun a => by fin_cases a <;> decide) _).symm) fun i =>
    ⟨t2_0, by decide, mem_whole (b := main_v7) (funext fun a => by fin_cases a <;> decide) (funext fun a => by fin_cases a <;> decide) i⟩

/-- The set-up kernel's output arrays are what its run leaves. -/
theorem arr1 : (dat1 V c).arrAt 5 cfg1.N = out1_5 V c ∧ (dat1 V c).arrAt 6 cfg1.N = out1_6 V c ∧ (dat1 V c).arrAt 7 cfg1.N = out1_7 V c := by
  refine ⟨?_, ?_, ?_⟩
  · exact (dat1 V c).arrAt_eq_of_cover 5 (out1_5 V c) (fun t _ => by
      obtain rfl := fin_N1 t
      exact (Memref.read_access_unit_zero (Elt F) main_v6_0 (off := fun a => win1_5.index t1_0 a * main_v6_0.ty.shape.size a) (funext fun a => by fin_cases a <;> decide) (fun a => by fin_cases a <;> decide) _).symm) fun i =>
      ⟨t1_0, by decide, mem_whole (b := main_v6_0) (funext fun a => by fin_cases a <;> decide) (funext fun a => by fin_cases a <;> decide) i⟩
  · exact (dat1 V c).arrAt_eq_of_cover 6 (out1_6 V c) (fun t _ => by
      obtain rfl := fin_N1 t
      exact (Memref.read_access_unit_zero (Elt F) main_v6_1 (off := fun a => win1_6.index t1_0 a * main_v6_1.ty.shape.size a) (funext fun a => by fin_cases a <;> decide) (fun a => by fin_cases a <;> decide) _).symm) fun i =>
      ⟨t1_0, by decide, mem_whole (b := main_v6_1) (funext fun a => by fin_cases a <;> decide) (funext fun a => by fin_cases a <;> decide) i⟩
  · exact (dat1 V c).arrAt_eq_of_cover 7 (out1_7 V c) (fun t _ => by
      obtain rfl := fin_N1 t
      exact (Memref.read_access_unit_zero (Elt F) main_v6_2 (off := fun a => win1_7.index t1_0 a * main_v6_2.ty.shape.size a) (funext fun a => by fin_cases a <;> decide) (fun a => by fin_cases a <;> decide) _).symm) fun i =>
      ⟨t1_0, by decide, mem_whole (b := main_v6_2) (funext fun a => by fin_cases a <;> decide) (funext fun a => by fin_cases a <;> decide) i⟩

end AnyFloat

/-- A tile of the scaled transpose of a block of real rows. -/
theorem tile_m2 (X : Fin 512 → Fin 4096 → ℝ) (o : ℕ) (ho : o + 512 ≤ 4096) (h) :
    tile (F := Ideal) (m2 X) o h = m2 fun k i => 256 * cut o ho X i k := by
  have e : View.ld (Val := Elt Ideal) (S := S512x4096) (e' := .f32) (m2 X) (Rect.unit (s := S512x4096) ![0, o] S512x512.size h) = m2 (cut o ho X) := by
    funext x
    refine (tile_cut o ho X _ x fun k => ?_).symm
    simp
  have hw : Ideal.ofBits .f32 0x43800000#32 = ((256 : ℝ) : EReal) := by simp [Ideal.ofBits, Ideal.ieee, -EReal.coe_mul]; norm_num
  unfold tile k0_pay4
  rw [e]
  dsimp only
  rw [transpose_m2, broadcast_m2 _ _ hw, mulf_m2, truncf_id]
  exact ext2 fun i j => by rw [m2_ix2, m2_ix2, mul_comm]

/-- A row range of a matrix, read at an element. -/
theorem tile_rows (X : Fin 512 → Fin 4096 → ℝ) (o : ℕ) (ho : o + 512 ≤ 4096) (y : S4096x512.Idx) (x : S512x512.Idx)
    (h : ∀ k, (y k : ℕ) = (![o, 0] : Fin 2 → ℕ) k + x k) :
    m2 (fun k i => 256 * cut o ho X i k) x = m2 (fun k i => 256 * X i k) y := by
  have e0 : o + (x 0 : ℕ) = y 0 := by have := h 0; simp at this; omega
  have e1 : (x 1 : ℕ) = y 1 := by have := h 1; simp at this; omega
  show ((256 * X (x 1) ⟨o + (x 0).val, _⟩ : ℝ) : EReal) = ((256 * X (y 1) (y 0) : ℝ) : EReal)
  congr 3
  · exact Fin.ext e1
  · exact Fin.ext e0

/-- The first kernel's output block is the scaled transpose of its input block. -/
theorem k0V_m2 (X : Fin 512 → Fin 4096 → ℝ) : k0V (F := Ideal) (m2 X) = m2 fun k i => 256 * X i k := by
  funext y
  have hc := cover0 (F := Ideal) (m2 X) y
  unfold k0V
  refine View.canon_eq_of_allAt _ _ _ hc ?_
  unfold pieces0
  rw [tile_m2 X 3584 (by omega), tile_m2 X 3072 (by omega), tile_m2 X 2560 (by omega), tile_m2 X 2048 (by omega),
    tile_m2 X 1536 (by omega), tile_m2 X 1024 (by omega), tile_m2 X 512 (by omega), tile_m2 X 0 (by omega)]
  iterate 8 refine View.allAt_cons_unit _ _ _ _ _ (fun x h => tile_rows X _ _ y x h) ?_
  exact View.allAt_nil _ _

/-- The grid point's number is the block's number, down the input and across the output. -/
theorem index0 (t : Fin cfg0.N) : (win0_0.index t 0 = t.val ∧ win0_0.index t 1 = 0) ∧ win0_1.index t 0 = 0 ∧ win0_1.index t 1 = t.val := by
  revert t
  decide +kernel

/-- A block of real rows. -/
theorem stg0_m2 (V : Dev nD → Valuation τ sig (Elt Ideal)) (c : Dev nD) (L : Fin 4096 → Fin 4096 → ℝ) (h : V c (Proc.devRef .tc main_arg3) = m2 L) (t : Fin cfg0.N) :
    stg0 V c t = m2 fun (i : Fin 512) k => L ⟨512 * t.val + i, by have h8 : cfg0.N = 8 := (by decide); have := t.isLt; omega⟩ k := by
  show (win0_0.blk t).view.read (Elt Ideal) (V c (Proc.devRef .tc main_arg3)) = _
  rw [h]
  funext x
  rw [View.read_apply]
  show ((L _ _ : ℝ) : EReal) = ((L _ _ : ℝ) : EReal)
  congr 2
  · refine Fin.ext ?_
    show win0_0.index t 0 * 512 + 1 * (x 0).val = 512 * t.val + (x 0).val
    rw [(index0 t).1.1]; ring
  · refine Fin.ext ?_
    show win0_0.index t 1 * 4096 + 1 * (x 1).val = (x 1).val
    rw [(index0 t).1.2]; ring

/-- The first kernel's output array is the scaled transpose of its input array. -/
theorem arr0_1 (V : Dev nD → Valuation τ sig (Elt Ideal)) (c : Dev nD) (L : Fin 4096 → Fin 4096 → ℝ) (h : V c (Proc.devRef .tc main_arg3) = m2 L) :
    (dat0 V c).arrAt 1 cfg0.N = m2 fun k j => 256 * L j k := by
  refine (dat0 V c).arrAt_eq_of_cover 1 (m2 fun k j => 256 * L j k) (fun t _ => ?_) fun i => ?_
  · show (cfg0.win 1).cut (grid0.coords t) ((dat0 V c).after 1 t) = _
    rw [after0_1, stg0_m2 V c L h t, k0V_m2]
    funext x
    show ((256 * L _ _ : ℝ) : EReal) = ((256 * L _ _ : ℝ) : EReal)
    congr 3
    · refine Fin.ext ?_
      show 512 * t.val + (x 1).val = win0_1.index t 1 * 512 + 1 * (x 1).val
      rw [(index0 t).2.2]; ring
    · refine Fin.ext ?_
      show (x 0).val = win0_1.index t 0 * 4096 + 1 * (x 0).val
      rw [(index0 t).2.1]; ring
  · have hN : cfg0.N = 8 := by decide
    have hi : (i 1 : ℕ) < 4096 := (i 1).isLt
    have ht : (i 1 : ℕ) / 512 < cfg0.N := by rw [hN]; omega
    refine ⟨⟨(i 1 : ℕ) / 512, ht⟩, ?_, ?_⟩
    · generalize (⟨(i 1 : ℕ) / 512, ht⟩ : Fin cfg0.N) = t
      revert t
      decide +kernel
    · refine (Finset.ext_iff.mp (View.set_slice_whole main_v0 (win0_1.rect ⟨(i 1 : ℕ) / 512, ht⟩)) i).mpr ?_
      refine (Rect.mem_set_unit ..).mpr ?_
      have hix := (index0 ⟨(i 1 : ℕ) / 512, ht⟩).2
      intro a
      match a with
      | ⟨0, _⟩ =>
        show win0_1.index _ 0 * 4096 ≤ (i 0 : ℕ) ∧ (i 0 : ℕ) < win0_1.index _ 0 * 4096 + 4096
        have h0 : (i 0 : ℕ) < 4096 := (i 0).isLt
        rw [hix.1]; omega
      | ⟨1, _⟩ =>
        show win0_1.index _ 1 * 512 ≤ (i 1 : ℕ) ∧ (i 1 : ℕ) < win0_1.index _ 1 * 512 + 512
        rw [hix.2]
        show (i 1 : ℕ) / 512 * 512 ≤ (i 1 : ℕ) ∧ (i 1 : ℕ) < (i 1 : ℕ) / 512 * 512 + 512
        omega

end Cert.Proof.Val

end
-- ==== Proof.Val.Kernel.lean ====
module

public import proofs.«01_k».proof.Proof.Val.Arrays
public import proofs.«01_k».proof.Proof.KI.Run
public import proofs.«01_k».proof.Proof.Gen.KernelIdeal.Regions

@[expose] public section

noncomputable section

namespace Cert.Proof.Val

open Cert.KernelIdeal Cert.KernelIdeal.Gen Cert.Proof.KI
open Idealize.ShloMosaic Idealize.ShloMosaic.ValueIdx Idealize.ShloMosaic.TcCoe Idealize.ShloMosaic.Tactic

variable (M : Fin 4096 → Fin 512 → ℝ) (H : Fin 64 → Fin 512 → ℝ) (L : Fin 4096 → Fin 4096 → ℝ) (Z : Fin 4096 → Fin 512 → ℝ) (W : Fin 4096 → Fin 64 → ℝ)

/-- A whole buffer reads as its contents. -/
theorem rd (b : Ref sig .tc) (X : b.ty.Idx → Elt Ideal b.ty.elt) : (Memref.whole b).view.read (Elt Ideal) X = X := rfl

section Regions

variable (V : Dev nD → Valuation τ sig (Elt Ideal)) (c : Dev nD)

/-- The set-up kernel's arrays at real inputs. -/
theorem outs1_m2 (hM : ∀ i c, 0 ≤ M i c) (e0 : sitofp (F := Ideal) .f32 (V c (Proc.devRef .tc main_arg0)) = m2 M) (e1 : V c (Proc.devRef .tc main_arg4) = m2 Z)
    (e2 : V c (Proc.devRef .tc main_arg2) = m2 H) (e3 : V c (Proc.devRef .tc main_v3) = m2 H) (e4 : V c (Proc.devRef .tc main_v4) = m2 fun c s => H s c) :
    out1_5 V c = m2 (fun c j => M j c) ∧ out1_6 V c = m2 (fun r j => rhs M H Z j r) ∧ out1_7 V c = m2 fun _ j => lam M H j := by
  obtain ⟨s0, s1, s2, s3, s4⟩ := stg1_eq V c
  have r0 : (stage1_0 0).view.read (Elt Ideal) (stg1_0 V c) = V c (Proc.devRef .tc main_arg0) := (rd _ _).trans s0
  have q0 : sitofp (F := Ideal) .f32 ((stage1_0 0).view.read (Elt Ideal) (stg1_0 V c)) = m2 M := by rw [r0]; exact e0
  have q1 : (stage1_1 0).view.read (Elt Ideal) (stg1_1 V c) = m2 Z := (rd _ _).trans (s1.trans e1)
  have q2 : (stage1_2 0).view.read (Elt Ideal) (stg1_2 V c) = m2 H := (rd _ _).trans (s2.trans e2)
  have q3 : (stage1_3 0).view.read (Elt Ideal) (stg1_3 V c) = m2 H := (rd _ _).trans (s3.trans e3)
  have q4 : (stage1_4 0).view.read (Elt Ideal) (stg1_4 V c) = m2 fun c s => H s c := (rd _ _).trans (s4.trans e4)
  unfold out1_5 out1_6 out1_7
  refine ⟨(rd _ _).symm.trans (run1_fst (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0) M c _ _ _ _ _ q0), ?_, ?_⟩
  · exact (rd _ _).symm.trans (run1_snd (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0) M H Z c _ _ _ _ _ q0 q1 q2)
  · exact (rd _ _).symm.trans (run1_thd (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0) M H c _ _ _ _ _ hM q0 q2 q3 q4)

/-- The main kernel's array at real inputs. -/
theorem outs2_m2 (hl : ∀ i, lam M H i ≠ 0) (e0 : V c (Proc.devRef .tc main_v0) = m2 fun k j => 256 * L j k) (e1 : V c (Proc.devRef .tc main_v6_0) = m2 fun c j => M j c)
    (e3 : V c (Proc.devRef .tc main_v1) = m2 H) (e4 : V c (Proc.devRef .tc main_v2) = m2 fun c s => H s c) (e5 : V c (Proc.devRef .tc main_v6_1) = m2 fun r j => rhs M H Z j r)
    (e6 : V c (Proc.devRef .tc main_v6_2) = m2 fun _ j => lam M H j) (e7 : V c (Proc.devRef .tc main_v5) = m2 fun r j => W j r) :
    out2_8 V c = m2 fun r j => res M H L Z W j r := by
  obtain ⟨s0, s1, s3, s4, s5, s6, s7⟩ := stg2_eq V c
  have q0 : (stage2_0 0).view.read (Elt Ideal) (stg2_0 V c) = _ := (rd _ _).trans (s0.trans e0)
  have q1 : (stage2_1 0).view.read (Elt Ideal) (stg2_1 V c) = _ := (rd _ _).trans (s1.trans e1)
  have q3 : (stage2_3 0).view.read (Elt Ideal) (stg2_3 V c) = _ := (rd _ _).trans (s3.trans e3)
  have q4 : (stage2_4 0).view.read (Elt Ideal) (stg2_4 V c) = _ := (rd _ _).trans (s4.trans e4)
  have q5 : (stage2_5 0).view.read (Elt Ideal) (stg2_5 V c) = _ := (rd _ _).trans (s5.trans e5)
  have q6 : (stage2_6 0).view.read (Elt Ideal) (stg2_6 V c) = _ := (rd _ _).trans (s6.trans e6)
  have q7 : (stage2_7 0).view.read (Elt Ideal) (stg2_7 V c) = _ := (rd _ _).trans (s7.trans e7)
  unfold out2_8
  exact (rd _ _).symm.trans (run2_m2 M H L Z (stage2_0 0) (hstage2_0 0) (stage2_1 0) (hstage2_1 0) (stage2_2 0) (hstage2_2 0) (stage2_3 0) (hstage2_3 0) (stage2_4 0) (hstage2_4 0) (stage2_5 0) (hstage2_5 0) (stage2_6 0) (hstage2_6 0) (stage2_7 0) (hstage2_7 0) (stage2_8 0) (hstage2_8 0) (Memref.whole cc2_scratch0) (Memref.isWhole_whole _) (Memref.whole cc2_scratch1) (Memref.isWhole_whole _)
    c _ _ q0 q1 hl (stg2_2 V c) _ _ _ _ _ q3 q4 q5 q6 W q7)

end Regions

section Valuations

variable (m : (ℓ : Loc nD τ sig) → Buf (Elt Ideal) ℓ) (c : Dev nD)

/-- What the first region leaves in its output. -/
theorem v0_arr : V1 m (outs m) c (Proc.devRef .tc main_v0) = (dat0 (V0 m) c).arrAt 1 cfg0.N :=
  (V1_eq m c _ (by decide +kernel)).symm.trans (Pipeline.afterRegion_arr (dat0 (V0 m) c) (V0 m c) launch0.win.arr_inj 1)

/-- What the second region leaves in its outputs. -/
theorem v6_arr : V3 m (outs m) c (Proc.devRef .tc main_v6_0) = out1_5 (V2 m (outs m)) c ∧ V3 m (outs m) c (Proc.devRef .tc main_v6_1) = out1_6 (V2 m (outs m)) c
    ∧ V3 m (outs m) c (Proc.devRef .tc main_v6_2) = out1_7 (V2 m (outs m)) c := by
  obtain ⟨a5, a6, a7⟩ := arr1 (V2 m (outs m)) c
  refine ⟨?_, ?_, ?_⟩
  · exact (V3_eq m c _ (by decide +kernel)).symm.trans ((Pipeline.afterRegion_arr (dat1 (V2 m (outs m)) c) (V2 m (outs m) c) launch1.win.arr_inj 5).trans a5)
  · exact (V3_eq m c _ (by decide +kernel)).symm.trans ((Pipeline.afterRegion_arr (dat1 (V2 m (outs m)) c) (V2 m (outs m) c) launch1.win.arr_inj 6).trans a6)
  · exact (V3_eq m c _ (by decide +kernel)).symm.trans ((Pipeline.afterRegion_arr (dat1 (V2 m (outs m)) c) (V2 m (outs m) c) launch1.win.arr_inj 7).trans a7)

/-- What the third region leaves in its output. -/
theorem v7_arr : V4 m (outs m) c (Proc.devRef .tc main_v7) = out2_8 (V3 m (outs m)) c :=
  (V4_eq m c _ (by decide +kernel)).symm.trans ((Pipeline.afterRegion_arr (dat2 (V3 m (outs m)) c) (V3 m (outs m) c) launch2.win.arr_inj 8).trans (arr2_8 _ c))

variable (h0 : sitofp (F := Ideal) .f32 (m (c, Proc.devRef .tc main_arg0)) = m2 M) (h1 : m (c, Proc.devRef .tc main_arg1) = m2 W) (h2 : m (c, Proc.devRef .tc main_arg2) = m2 H)
  (h3 : m (c, Proc.devRef .tc main_arg3) = m2 L) (h4 : m (c, Proc.devRef .tc main_arg4) = m2 Z)

/-- The buffers before the set-up kernel, at real arguments. -/
theorem V2_m2 (U : Dev nD → Valuation τ sig (Elt Ideal)) (h1 : U c (Proc.devRef .tc main_arg1) = m2 W) (h2 : U c (Proc.devRef .tc main_arg2) = m2 H) :
    StableHlo.after hostOps1 (U c) (Proc.devRef .tc main_v1) = m2 H ∧ StableHlo.after hostOps1 (U c) (Proc.devRef .tc main_v2) = (m2 fun c s => H s c)
    ∧ StableHlo.after hostOps1 (U c) (Proc.devRef .tc main_v3) = m2 H ∧ StableHlo.after hostOps1 (U c) (Proc.devRef .tc main_v4) = (m2 fun c s => H s c)
    ∧ StableHlo.after hostOps1 (U c) (Proc.devRef .tc main_v5) = m2 fun r j => W j r := by
  refine ⟨?_, ?_, ?_, ?_, ?_⟩ <;> after_results
  · exact h2
  · exact (congrArg (fun x : FVec Ideal S64x512 .bf16 => transpose S512x64 [1, 0] x transposes_S64x512_S512x64_1_0) h2).trans (transpose_m2 _ _)
  · exact h2
  · exact (congrArg (fun x : FVec Ideal S64x512 .fp8e4m3 => transpose S512x64 [1, 0] x transposes_S64x512_S512x64_1_0) h2).trans (transpose_m2 _ _)
  · rw [h1]
    exact transpose_m2 _ _

include h0 h1 h2 h3 h4 in
/-- The kernel's result, at real arguments, is the problem's. -/
theorem V5_m2 (hM : ∀ i c, 0 ≤ M i c) : V5 m (outs m) c (Proc.devRef .tc main_v10) = m2 fun i s => res M H L Z W i s := by
  have hk : ∀ (r : Ref sig .tc), r ∉ ([main_v0] : List (Ref sig .tc)) → r ∉ hostOps1_W → V2 m (outs m) c r = m (c, Proc.devRef .tc r) := fun r hr hr' =>
    (V2_of m (outs m) c r hr').trans (V1_of m (outs m) c r hr)
  obtain ⟨v1, v2, v3, v4, v5⟩ := V2_m2 H W c (V1 m (outs m)) ((V1_of m (outs m) c main_arg1 (by decide)).trans h1) ((V1_of m (outs m) c main_arg2 (by decide)).trans h2)
  have v0 : V2 m (outs m) c (Proc.devRef .tc main_v0) = m2 fun k j => 256 * L j k :=
    (V2_of m (outs m) c main_v0 (by decide)).trans ((v0_arr m c).trans (arr0_1 (V0 m) c L h3))
  obtain ⟨o5, o6, o7⟩ := outs1_m2 M H Z (V2 m (outs m)) c hM ((congrArg (sitofp (F := Ideal) .f32) (hk main_arg0 (by decide) (by decide))).trans h0)
    ((hk main_arg4 (by decide) (by decide)).trans h4) ((hk main_arg2 (by decide) (by decide)).trans h2) v3 v4
  obtain ⟨a0, a1, a2⟩ := v6_arr m c
  have k3 : ∀ (r : Ref sig .tc), r ∉ ([main_v6_0, main_v6_1, main_v6_2] : List (Ref sig .tc)) → V3 m (outs m) c r = V2 m (outs m) c r := fun r hr => V3_of m (outs m) c r hr
  have o8 := outs2_m2 M H L Z W (V3 m (outs m)) c (fun i => ne_of_gt (lam_pos H hM i)) ((k3 main_v0 (by decide)).trans v0) (a0.trans o5) ((k3 main_v1 (by decide)).trans v1)
    ((k3 main_v2 (by decide)).trans v2) (a1.trans o6) (a2.trans o7) ((k3 main_v5 (by decide)).trans v5)
  have e7 := (v7_arr m c).trans o8
  show StableHlo.after hostOps3 (V4 m (outs m) c) (Proc.devRef .tc main_v10) = _
  generalize V4 m (outs m) c = U at e7 ⊢
  after_results
  rw [e7, transpose_m2]
  have h1 : Ideal.ofBits .f32 0x3F800000#32 = ((1 : ℝ) : EReal) := by simp [Ideal.ofBits, Ideal.ieee, -EReal.coe_mul]; norm_num
  refine (congrArg (fun x : FVec Ideal S4096x64 .f32 => mulf x (m2 fun i s => res M H L Z W i s)) (splat_m2 _ _ h1 _)).trans ?_
  rw [mulf_m2]
  exact ext2 fun i j => by rw [m2_ix2, m2_ix2, one_mul]

end Valuations

end Cert.Proof.Val

end
-- ==== Proof.Val.RefLift.lean ====
module

public import proofs.«01_k».proof.Proof.Gen.ReferenceIdeal
public import proofs.«01_k».proof.Proof.Val.Lift

@[expose] public section

noncomputable section

namespace Cert.Proof.Val

open Cert.ReferenceIdeal Cert.ReferenceIdeal.Gen
open Idealize.ShloMosaic Idealize.ShloMosaic.ValueIdx

variable {a b n : ℕ}

/-- A contraction over one coordinate of operands that are real along it. -/
theorem dot_real {sl sr so : Shape} (D : DotDims sl sr so) (K : ℕ) (hr : D.contr.rank = 1) (hs : D.contr.size ⟨0, by omega⟩ = K)
    (x : FVec Ideal sl .f32) (y : FVec Ideal sr .f32) (j : so.Idx) (f g : Fin K → ℝ)
    (hx : ∀ q : D.contr.Idx, x (D.lhsIdx j q) = ((f ((q ⟨0, by omega⟩).cast hs) : ℝ) : EReal))
    (hy : ∀ q : D.contr.Idx, y (D.rhsIdx j q) = ((g ((q ⟨0, by omega⟩).cast hs) : ℝ) : EReal)) :
    Host.dotGeneral (F := Ideal) D none x y j = ((∑ k, f k * g k : ℝ) : EReal) := by
  simp only [Host.dotGeneral]
  rw [Ideal.dotGeneral_apply, ← coe_sum, ← Equiv.sum_comp (contrEquiv1 D K hr hs)]
  refine Finset.sum_congr rfl fun q _ => ?_
  rw [hx, hy, EReal.coe_mul]
  rfl

/-- The masked data against the transposed factor. -/
theorem dotRhs_m2 (f : Fin 4096 → Fin 512 → ℝ) (g : Fin 512 → Fin 64 → ℝ) :
    Host.dotGeneral (F := Ideal) (φ₁ := .f32) (φ₂ := .f32) dot_S4096x512_S512x64_S4096x64_1_0_0_1_n_n none (m2 f) (m2 g) = m2 fun i s => ∑ c, f i c * g c s :=
  ext2 fun i s => dot_real _ 512 rfl rfl _ _ _ (fun c => f i c) (fun c => g c s) (fun _ => rfl) (fun _ => rfl)

/-- The graph against the iterate. -/
theorem dotGraph_m2 (f : Fin 4096 → Fin 4096 → ℝ) (g : Fin 4096 → Fin 64 → ℝ) :
    Host.dotGeneral (F := Ideal) (φ₁ := .f32) (φ₂ := .f32) dot_S4096x4096_S4096x64_S4096x64_1_0_0_1_n_n none (m2 f) (m2 g) = m2 fun i s => ∑ k, f i k * g k s :=
  ext2 fun i s => dot_real _ 4096 rfl rfl _ _ _ (fun k => f i k) (fun k => g k s) (fun _ => rfl) (fun _ => rfl)

/-- The mask against the products of pairs. -/
theorem dotPairs_m3 (f : Fin 4096 → Fin 512 → ℝ) (g : Fin 64 → Fin 64 → Fin 512 → ℝ) :
    Host.dotGeneral (F := Ideal) (φ₁ := .f32) (φ₂ := .f32) dot_S4096x512_S64x64x512_S4096x64x64_1_2_0_01_n_n none (m2 f) (m3 g) = m3 fun i r s => ∑ c, f i c * g r s c :=
  ext3 fun i r s => dot_real _ 512 rfl rfl _ _ _ (fun c => f i c) (fun c => g r s c) (fun _ => rfl) (fun _ => rfl)

/-- Each row's matrix applied to the row's vector. -/
theorem dotApp_m2 (f : Fin 4096 → Fin 64 → Fin 64 → ℝ) (g : Fin 4096 → Fin 64 → ℝ) :
    Host.dotGeneral (F := Ideal) (φ₁ := .f32) (φ₂ := .f32) dot_S4096x64x64_S4096x64_S4096x64_2_1_1_n_0_0 none (m3 f) (m2 g) = m2 fun i r => ∑ s, f i r s * g i s :=
  ext2 fun i r => dot_real _ 64 rfl rfl _ _ _ (fun s => f i r s) (fun s => g i s) (fun _ => rfl) (fun _ => rfl)

/-- Each row's vector times the row's matrix. -/
theorem dotRow_m2 (g : Fin 4096 → Fin 64 → ℝ) (f : Fin 4096 → Fin 64 → Fin 64 → ℝ) :
    Host.dotGeneral (F := Ideal) (φ₁ := .f32) (φ₂ := .f32) dot_S4096x64_S4096x64x64_S4096x64_1_1_n_2_0_0 none (m2 g) (m3 f) = m2 fun i s => ∑ r, g i r * f i r s :=
  ext2 fun i s => dot_real _ 64 rfl rfl _ _ _ (fun r => g i r) (fun r => f i r s) (fun _ => rfl) (fun _ => rfl)

/-- A vector as one column. -/
theorem column_m1 (f : Fin a → ℝ) (h) : broadcastInDim (⟨2, ![a, 1]⟩ : Shape) ![0] h (m1 f) = m2 fun i _ => f i :=
  ext2 fun i j => by
    rw [broadcastInDim_apply _ _ _ (ix2 i j) (ix1 i)]
    · rfl
    · intro x
      match x with
      | ⟨0, _⟩ =>
        show i.val = if a = 1 then 0 else i.val
        split
        · have := i.isLt; omega
        · rfl

/-- One column copied into every column. -/
theorem spread_m2 (f : Fin a → Fin 1 → ℝ) (h) : broadcastInDim (⟨2, ![a, b]⟩ : Shape) ![0, 1] h (m2 f) = m2 fun i _ => f i 0 :=
  ext2 fun i j => by
    rw [broadcastInDim_apply _ _ _ (ix2 i j) (ix2 i (0 : Fin 1))]
    · rfl
    · intro x
      match x with
      | ⟨0, _⟩ =>
        show i.val = if a = 1 then 0 else i.val
        split
        · have := i.isLt; omega
        · rfl
      | ⟨1, _⟩ => show (0 : ℕ) = if (1 : ℕ) = 1 then 0 else _; simp

/-- An index that is zero on a single place and itself elsewhere, as a broadcast reads it. -/
theorem bound_ite {k : ℕ} (i : Fin k) : i.val = if k = 1 then 0 else i.val := by
  split
  · have := i.isLt; omega
  · rfl

/-- One matrix copied along a new first axis. -/
theorem stackFirst_m3 (f : Fin a → Fin b → ℝ) (h) (h') :
    broadcastInDim (⟨3, ![n, a, b]⟩ : Shape) ![0, 1, 2] h' (broadcastInDim (⟨3, ![1, a, b]⟩ : Shape) ![1, 2] h (m2 f)) = m3 fun _ r s => f r s :=
  ext3 fun i r s => by
    rw [broadcastInDim_apply _ _ _ (ix3 i r s) (ix3 (0 : Fin 1) r s), broadcastInDim_apply _ _ _ (ix3 (0 : Fin 1) r s) (ix2 r s)]
    · rfl
    · intro x
      match x with
      | ⟨0, _⟩ => exact bound_ite r
      | ⟨1, _⟩ => exact bound_ite s
    · intro x
      match x with
      | ⟨0, _⟩ => show (0 : ℕ) = if (1 : ℕ) = 1 then 0 else _; simp
      | ⟨1, _⟩ => exact bound_ite r
      | ⟨2, _⟩ => exact bound_ite s

/-- One matrix copied along a new middle axis. -/
theorem stackMiddle_m3 (f : Fin a → Fin b → ℝ) (h) (h') :
    broadcastInDim (⟨3, ![a, n, b]⟩ : Shape) ![0, 1, 2] h' (broadcastInDim (⟨3, ![a, 1, b]⟩ : Shape) ![0, 2] h (m2 f)) = m3 fun r _ s => f r s :=
  ext3 fun r i s => by
    rw [broadcastInDim_apply _ _ _ (ix3 r i s) (ix3 r (0 : Fin 1) s), broadcastInDim_apply _ _ _ (ix3 r (0 : Fin 1) s) (ix2 r s)]
    · rfl
    · intro x
      match x with
      | ⟨0, _⟩ => exact bound_ite r
      | ⟨1, _⟩ => exact bound_ite s
    · intro x
      match x with
      | ⟨0, _⟩ => exact bound_ite r
      | ⟨1, _⟩ => show (0 : ℕ) = if (1 : ℕ) = 1 then 0 else _; simp
      | ⟨2, _⟩ => exact bound_ite s

/-- The identity matrix, as a comparison of row and column numbers. -/
theorem eye_m2 (h) : uitofp (F := Ideal) .f32 (cmpi .eq (addi (iotaInDim S64x64 32 0) (broadcastInDim S64x64 ![] h (constantI S_ 32 0#32))) (iotaInDim S64x64 32 1))
    = m2 fun (r : Fin 64) (s : Fin 64) => if r = s then 1 else 0 :=
  ext2 fun r s => by
    have h2 : (BitVec.ofNat 32 r.val + 0#32 = BitVec.ofNat 32 s.val) ↔ r = s := by
      rw [BitVec.add_zero, Fin.ext_iff]
      constructor
      · intro e
        have := congrArg BitVec.toNat e
        simp only [BitVec.toNat_ofNat] at this
        have := r.isLt; have := s.isLt; omega
      · intro e; rw [e]
    show (((BitVec.ofBool (decide (BitVec.ofNat 32 r.val + 0#32 = BitVec.ofNat 32 s.val))).toNat : ℝ) : EReal) = (((if r = s then 1 else 0 : ℝ)) : EReal)
    by_cases e : r = s
    · rw [if_pos e, decide_eq_true (h2.mpr e)]; simp
    · rw [if_neg e, decide_eq_false (fun h => e (h2.mp h))]; simp

/-- The sums of a stack along its last axis. -/
theorem lastsum_m3 (f : Fin 4096 → Fin 64 → Fin 64 → ℝ) (h) (hu) :
    Host.reduceAdd (F := Ideal) (φ := .f32) (s := ⟨3, ![4096, 64, 64]⟩) (t := ⟨2, ![4096, 64]⟩) (axes := [2]) (u := ⟨0, ![]⟩) (m3 f) (constant _ .f32 0x00000000#32) h hu
      = m2 fun i r => ∑ s, f i r s := by
  have h1 : (⟨3, ![4096, 64, 64]⟩ : Shape).Reduces [2] ⟨2, ![4096, 64]⟩ := by decide
  refine ext2 fun i r => ?_
  rw [hostReduceAdd_apply, Ideal.hostReduceAdd_single _ h1]
  show Ideal.ofBits .f32 0x00000000#32 + (∑ k : Fin 64, m3 f (h1.lift (ix2 i r) k)) = _
  rw [Ideal.ofBits_zero_f32, zero_add]
  have e : ∀ k : Fin 64, h1.lift (ix2 i r) k = ix3 i r k := fun k => funext fun x => match x with
    | ⟨0, _⟩ => Fin.ext rfl
    | ⟨1, _⟩ => Fin.ext rfl
    | ⟨2, _⟩ => Fin.ext rfl
  simp only [e, m3_ix3, coe_sum, m2_ix2]

/-- The sum of all entries of a matrix. -/
theorem allsum_m2 (f : Fin a → Fin b → ℝ) (h) (hu) :
    Host.reduceAdd (F := Ideal) (φ := .f32) (s := ⟨2, ![a, b]⟩) (t := ⟨0, ![]⟩) (axes := [0, 1]) (u := ⟨0, ![]⟩) (m2 f) (constant _ .f32 0x00000000#32) h hu
      = fun _ => ((∑ i, ∑ j, f i j : ℝ) : EReal) :=
  funext fun i => by
    rw [hostReduceAdd_apply, Ideal.hostReduceAdd_total _ (fun b => b.elim0)]
    show Ideal.ofBits .f32 0x00000000#32 + _ = _
    rw [Ideal.ofBits_zero_f32, zero_add, ValueIdx.sum_idx2]
    simp only [m2_ix2, coe_sum]

/-- Absolute values of a real matrix, on the host. -/
theorem hostAbsf_m2 (f : Fin a → Fin b → ℝ) : Host.absf (F := Ideal) (φ := .f32) (s := ⟨2, ![a, b]⟩) (m2 f) = m2 fun i j => |f i j| := absf_m2 f

end Cert.Proof.Val

end
-- ==== Proof.Val.Ref.lean ====
module

public import proofs.«01_k».proof.Proof.RI.Run
public import proofs.«01_k».proof.Proof.Val.RefLift
public import proofs.«01_k».proof.Proof.Val.Model
public import proofs.«01_k».proof.Proof.Val.StepIdeal

@[expose] public section

set_option maxRecDepth 8192

noncomputable section

namespace Cert.Proof.Val

open Cert.ReferenceIdeal Cert.ReferenceIdeal.Gen Cert.Proof.RI
open Idealize.ShloMosaic Idealize.ShloMosaic.ValueIdx Idealize.ShloMosaic.TcCoe Idealize.ShloMosaic.Tactic
open Idealize.ShloMosaic.StableHlo

variable (M : Fin 4096 → Fin 512 → ℝ) (H : Fin 64 → Fin 512 → ℝ) (L : Fin 4096 → Fin 4096 → ℝ) (Z : Fin 4096 → Fin 512 → ℝ) (W : Fin 4096 → Fin 64 → ℝ)

section Before

variable (X : Valuation τ sig (Elt Ideal)) (h0 : sitofp (F := Ideal) .f32 (X (Proc.devRef .tc main_arg0)) = m2 M) (h2 : X (Proc.devRef .tc main_arg2) = m2 H)

include h0 h2 in
/-- Each row's matrix. -/
theorem ref_A : after preOps X (Proc.devRef .tc main_v20) = m3 (A M H) := by
  after_results
  rw [h0, h2, stackMiddle_m3, stackFirst_m3, mulf_m3, dotPairs_m3, eye_m2, splat_m2 _ _ ofBits_al, mulf_m2, stackFirst_m3, addf_m3]
  rfl

include h0 h2 in
/-- The right-hand side. -/
theorem ref_rhs (h4 : X (Proc.devRef .tc main_arg4) = m2 Z) : after preOps X (Proc.devRef .tc main_v3) = m2 (rhs M H Z) := by
  after_results
  rw [h0, h2, h4, mulf_m2, transpose_m2, dotRhs_m2]
  rfl

include h0 h2 in
/-- The first loop's matrices. -/
theorem ref_A0 : after preOps X (Proc.devRef .tc main_v35_0) = m3 (A M H) := by
  refine Eq.trans ?_ (ref_A M H X h0 h2)
  after_results
  rfl

/-- The start of the power method, from the matrices. -/
theorem ref_start : after preOps X (Proc.devRef .tc main_v35_2) = Host.divf (F := Ideal)
    (Host.reduceAdd (F := Ideal) (mulf (after preOps X (Proc.devRef .tc main_v20)) (broadcastInDim S4096x64x64 ![0, 1, 2] bcast_S1x64x64_S4096x64x64_0_1_2 (broadcastInDim S1x64x64 ![1, 2] bcast_S64x64_S1x64x64_1_2
      (uitofp (F := Ideal) .f32 (cmpi .eq (addi (iotaInDim S64x64 32 0) (broadcastInDim S64x64 ![] bcast_S_S64x64 (constantI S_ 32 0#32))) (iotaInDim S64x64 32 1))))))
      (constant S_ .f32 0x00000000#32) reducesTo_S4096x64x64_S4096x64_d2 h_S_)
    (broadcastInDim S4096x64 ![0, 1] bcast_S4096x1_S4096x64_0_1 (broadcastInDim S4096x1 ![0] bcast_S4096_S4096x1_0
      (Host.reduce (FloatOps.maximumf (F := Ideal) (φ := .f32))
        (Host.reduceAdd (F := Ideal) (mulf (after preOps X (Proc.devRef .tc main_v20)) (broadcastInDim S4096x64x64 ![0, 1, 2] bcast_S1x64x64_S4096x64x64_0_1_2 (broadcastInDim S1x64x64 ![1, 2] bcast_S64x64_S1x64x64_1_2
          (uitofp (F := Ideal) .f32 (cmpi .eq (addi (iotaInDim S64x64 32 0) (broadcastInDim S64x64 ![] bcast_S_S64x64 (constantI S_ 32 0#32))) (iotaInDim S64x64 32 1))))))
          (constant S_ .f32 0x00000000#32) reducesTo_S4096x64x64_S4096x64_d2 h_S_)
        (constant S_ .f32 0xFF800000#32) reducesTo_S4096x64_S4096_d1 h_S_))) := by
  after_results
  rfl

include h0 h2 in
/-- The start of the power method. -/
theorem ref_pw0 (hM : ∀ i c, 0 ≤ M i c) : after preOps X (Proc.devRef .tc main_v35_2) = m2 fun i r => pw M H i 0 r := by
  have hd : (fun (i : Fin 4096) (r : Fin 64) => ∑ s, A M H i r s * (if r = s then (1 : ℝ) else 0)) = fun i r => A M H i r r := by
    funext i r
    simp
  rw [ref_start, ref_A M H X h0 h2, eye_m2, stackFirst_m3, mulf_m3, lastsum_m3, hd, hostRowmax_m2 _ _ (by decide), spreadCol_m1]
  exact hostDivf_m2 _ _ fun i _ => ne_of_gt (top_pos 0 (diag_pos H hM i 0))

end Before

section PowerMethod

variable (X : Valuation τ sig (Elt Ideal)) (hM : ∀ i c, 0 ≤ M i c)

include hM in
/-- One step of the power method. -/
theorem ref_powStep (n : ℕ) (hA : X (Proc.devRef .tc main_v35_0) = m3 (A M H)) (hv : X (Proc.devRef .tc main_v35_2) = m2 fun i r => pw M H i n r) :
    after w0A X (Proc.devRef .tc main_v35_2) = m2 fun i r => pw M H i (n + 1) r := by
  after_results
  rw [hA, hv, dotApp_m2, hostAbsf_m2, hostRowmax_m2 _ _ (by decide), spreadCol_m1]
  exact hostDivf_m2 _ _ fun i _ => step_ne H hM i n

/-- The first loop's condition changes no buffer the body reads. -/
theorem condA_keep (r : Ref sig .tc) (h : r ∉ condA_W) : after condA X (Proc.devRef .tc r) = X (Proc.devRef .tc r) :=
  after_of_writes_sub condA _ condA_writes (by simpa using h)

/-- The second loop's condition changes no buffer the body reads. -/
theorem condB_keep (r : Ref sig .tc) (h : r ∉ condB_W) : after condB X (Proc.devRef .tc r) = X (Proc.devRef .tc r) :=
  after_of_writes_sub condB _ condB_writes (by simpa using h)

include hM in
/-- The Rayleigh quotients, from the last iterate. -/
theorem ref_lam (hA : X (Proc.devRef .tc main_v20) = m3 (A M H)) (hv : X (Proc.devRef .tc main_v35_2) = m2 fun i r => pw M H i 32 r) :
    after midA X (Proc.devRef .tc main_v43) = m2 fun i (_ : Fin 1) => lam M H i := by
  after_results
  rw [hA, hv, dotApp_m2, mulf_m2, mulf_m2, hostRowsum_m2 _ _ (by decide), hostRowsum_m2 _ _ (by decide), column_m1, column_m1]
  exact hostDivf_m2 _ _ fun i _ => ne_of_gt (pw_pos H hM i 32)

end PowerMethod

section Descent

variable (X : Valuation τ sig (Elt Ideal)) (hM : ∀ i c, 0 ≤ M i c)

/-- The reference's step formula is the model's step. -/
theorem step_formula (hl : ∀ i, lam M H i ≠ 0) (i : Fin 4096) (s : Fin 64) :
    max (-(1 / 2) * (2 * ((∑ r, W i r * A M H i r s) - W i s * lam M H i + ltr * (∑ k, L i k * W k s) - rhs M H Z i s) / lam M H i)) 0 = stp M H L Z W i s := by
  unfold stp
  congr 1
  field_simp [hl i]
  ring

/-- The word of the graph term's weight. -/
theorem ofBits_weight : Ideal.ofBits .f32 0x3C23D70A#32 = ((ltr : ℝ) : EReal) := by
  simp [Ideal.ofBits, Ideal.ieee, ltr, -EReal.coe_mul]; norm_num

/-- The word of two. -/
theorem ofBits_two : Ideal.ofBits .f32 0x40000000#32 = ((2 : ℝ) : EReal) := by
  simp [Ideal.ofBits, Ideal.ieee, -EReal.coe_mul]; norm_num

/-- The word of minus one half. -/
theorem ofBits_mhalf : Ideal.ofBits .f32 0xBF000000#32 = ((-(1 / 2) : ℝ) : EReal) := by
  simp [Ideal.ofBits, Ideal.ieee, -EReal.coe_mul]; norm_num

/-- The word of the number of entries. -/
theorem ofBits_count : Ideal.ofBits .f32 0x48800000#32 = ((262144 : ℝ) : EReal) := by
  simp [Ideal.ofBits, Ideal.ieee, -EReal.coe_mul]; norm_num

/-- One step's operations: the residual, doubled, divided by the row's eigenvalue, times minus one half, and clipped at zero. -/
def stepOps (w : FVec Ideal S4096x64 .f32) (a : FVec Ideal S4096x64x64 .f32) (l : FVec Ideal S4096x1 .f32) (g : FVec Ideal S4096x4096 .f32) (v : FVec Ideal S4096x64 .f32) : FVec Ideal S4096x64 .f32 :=
  maximumf (mulf (broadcastInDim S4096x64 ![] bcast_S_S4096x64 (constant (F := Ideal) S_ .f32 0xBF000000#32))
    (Host.divf (mulf (broadcastInDim S4096x64 ![] bcast_S_S4096x64 (constant (F := Ideal) S_ .f32 0x40000000#32))
      (subf (addf (subf (Host.dotGeneral (F := Ideal) (φ₁ := .f32) (φ₂ := .f32) dot_S4096x64_S4096x64x64_S4096x64_1_1_n_2_0_0 none w a) (mulf w (broadcastInDim S4096x64 ![0, 1] bcast_S4096x1_S4096x64_0_1 l)))
        (mulf (broadcastInDim S4096x64 ![] bcast_S_S4096x64 (constant (F := Ideal) S_ .f32 0x3C23D70A#32)) (Host.dotGeneral (F := Ideal) (φ₁ := .f32) (φ₂ := .f32) dot_S4096x4096_S4096x64_S4096x64_1_0_0_1_n_n none g w))) v))
      (broadcastInDim S4096x64 ![0, 1] bcast_S4096x1_S4096x64_0_1 l)))
    (broadcastInDim S4096x64 ![] bcast_S_S4096x64 (constant (F := Ideal) S_ .f32 0x00000000#32))

variable (hl : ∀ i, lam M H i ≠ 0)

include hl in
/-- The step's operations on real arrays are the model's step. -/
theorem stepOps_m2 : stepOps (m2 W) (m3 (A M H)) (m2 fun i (_ : Fin 1) => lam M H i) (m2 L) (m2 (rhs M H Z)) = m2 (stp M H L Z W) := by
  unfold stepOps
  rw [dotRow_m2, spread_m2, mulf_m2, subf_m2, dotGraph_m2, splat_m2 _ _ ofBits_weight, mulf_m2, addf_m2, subf_m2, splat_m2 _ _ ofBits_two, mulf_m2,
    hostDivf_m2 _ _ fun i _ => hl i, splat_m2 _ _ ofBits_mhalf, mulf_m2, splat_m2 _ _ ofBits_zero, maximumf_m2]
  exact ext2 fun i s => by rw [m2_ix2, m2_ix2, step_formula M H L Z W hl]

/-- The step in the loop is those operations. -/
theorem ref_stepOps : after w1B (after w1A X) (Proc.devRef .tc main_while1b_v78)
    = stepOps (X (Proc.devRef .tc main_v44_6)) (X (Proc.devRef .tc main_v44_0)) (X (Proc.devRef .tc main_v44_1)) (X (Proc.devRef .tc main_v44_2)) (X (Proc.devRef .tc main_v44_3)) := by
  have e : ∀ Y : Valuation τ sig (Elt Ideal), after w1B Y (Proc.devRef .tc main_while1b_v78)
      = maximumf (F := Ideal) (φ := .f32) (s := S4096x64) (Y (Proc.devRef .tc main_while1b_v77)) (broadcastInDim S4096x64 ![] bcast_S_S4096x64 (constant (F := Ideal) S_ .f32 0x00000000#32)) := fun Y => by
    after_results
    rfl
  rw [e]
  unfold stepOps
  after_results

/-- The step after the loop is those operations, times one. -/
theorem ref_lastOps : after postC (after postB (after postA X)) (Proc.devRef .tc main_v62)
    = mulf (F := Ideal) (φ := .f32) (s := S4096x64) (broadcastInDim S4096x64 ![] bcast_S_S4096x64 (constant (F := Ideal) S_ .f32 0x3F800000#32))
      (stepOps (X (Proc.devRef .tc main_v44_6)) (X (Proc.devRef .tc main_v20)) (X (Proc.devRef .tc main_v43)) (X (Proc.devRef .tc main_arg3)) (X (Proc.devRef .tc main_v3))) := by
  have e : ∀ Y : Valuation τ sig (Elt Ideal), after postC (after postB Y) (Proc.devRef .tc main_v62)
      = mulf (F := Ideal) (φ := .f32) (s := S4096x64) (broadcastInDim S4096x64 ![] bcast_S_S4096x64 (constant (F := Ideal) S_ .f32 0x3F800000#32))
        (maximumf (F := Ideal) (φ := .f32) (s := S4096x64) (Y (Proc.devRef .tc main_v59)) (broadcastInDim S4096x64 ![] bcast_S_S4096x64 (constant (F := Ideal) S_ .f32 0x00000000#32))) := fun Y => by
    after_results
    rfl
  rw [e]
  unfold stepOps
  after_results

include hl in
/-- One step of the descent in the loop. -/
theorem ref_step (hA : X (Proc.devRef .tc main_v44_0) = m3 (A M H)) (h1 : X (Proc.devRef .tc main_v44_1) = m2 fun i (_ : Fin 1) => lam M H i)
    (hL : X (Proc.devRef .tc main_v44_2) = m2 L) (h3 : X (Proc.devRef .tc main_v44_3) = m2 (rhs M H Z)) (hW : X (Proc.devRef .tc main_v44_6) = m2 W) :
    after w1B (after w1A X) (Proc.devRef .tc main_while1b_v78) = m2 (stp M H L Z W) := by
  rw [ref_stepOps, hA, h1, hL, h3, hW, stepOps_m2 M H L Z W hl]

include hl in
/-- The last step of the descent, after the loop. -/
theorem ref_last (hA : X (Proc.devRef .tc main_v20) = m3 (A M H)) (h1 : X (Proc.devRef .tc main_v43) = m2 fun i (_ : Fin 1) => lam M H i)
    (hL : X (Proc.devRef .tc main_arg3) = m2 L) (h3 : X (Proc.devRef .tc main_v3) = m2 (rhs M H Z)) (hW : X (Proc.devRef .tc main_v44_6) = m2 W) :
    after postC (after postB (after postA X)) (Proc.devRef .tc main_v62) = m2 (stp M H L Z W) := by
  have ho : Ideal.ofBits .f32 0x3F800000#32 = ((1 : ℝ) : EReal) := by simp [Ideal.ofBits, Ideal.ieee, -EReal.coe_mul]; norm_num
  rw [ref_lastOps, hA, h1, hL, h3, hW, stepOps_m2 M H L Z W hl, splat_m2 _ _ ho, mulf_m2]
  exact ext2 fun i j => by rw [m2_ix2, m2_ix2, one_mul]

/-- The mean squared change. -/
theorem ref_mse (N : Fin 4096 → Fin 64 → ℝ) (hN : X (Proc.devRef .tc main_while1b_v78) = m2 N) (hW : X (Proc.devRef .tc main_v44_6) = m2 W)
    (h4 : X (Proc.devRef .tc main_v44_4) = constant (F := Ideal) S_ .f32 0x48800000#32) :
    after w1C X (Proc.devRef .tc main_while1b_v82) = fun _ => (((∑ i, ∑ s, (N i s - W i s) * (N i s - W i s)) / 262144 : ℝ) : EReal) := by
  after_results
  rw [hN, hW, h4, subf_m2, mulf_m2, allsum_m2]
  funext j
  exact (congrArg (Ideal.div _) ofBits_count).trans (div_coe_coe _ _ (by norm_num))

open Classical in
include hl in
/-- One trip of the descent: the iterate and the flag advance as the model's. -/
theorem ref_trip (b : BitVec 1) (hA : X (Proc.devRef .tc main_v44_0) = m3 (A M H)) (h1 : X (Proc.devRef .tc main_v44_1) = m2 fun i (_ : Fin 1) => lam M H i)
    (hL : X (Proc.devRef .tc main_v44_2) = m2 L) (h3 : X (Proc.devRef .tc main_v44_3) = m2 (rhs M H Z)) (hW : X (Proc.devRef .tc main_v44_6) = m2 W)
    (h4 : X (Proc.devRef .tc main_v44_4) = constant (F := Ideal) S_ .f32 0x48800000#32) (h7 : X (Proc.devRef .tc main_v44_7) = fun _ => b) :
    after w1E (after w1D (after w1C (after w1B (after w1A X)))) (Proc.devRef .tc main_v44_6) = m2 (adv M H L Z (W, b)).1
    ∧ after w1E (after w1D (after w1C (after w1B (after w1A X)))) (Proc.devRef .tc main_v44_7) = fun _ => (adv M H L Z (W, b)).2 := by
  have s := ref_step M H L Z W X hl hA h1 hL h3 hW
  have k : ∀ r, r ∉ w1A_W → r ∉ w1B_W → after w1B (after w1A X) (Proc.devRef .tc r) = X (Proc.devRef .tc r) := fun r ha hb =>
    (after_of_writes_sub w1B _ w1B_writes hb).trans (after_of_writes_sub w1A _ w1A_writes ha)
  have k4 := (k main_v44_4 (by decide +kernel) (by decide +kernel)).trans h4
  have k6 := (k main_v44_6 (by decide +kernel) (by decide +kernel)).trans hW
  have k7 := (k main_v44_7 (by decide +kernel) (by decide +kernel)).trans h7
  generalize after w1B (after w1A X) = Y at s k4 k6 k7 ⊢
  have e := ref_mse W Y _ s k6 k4
  have c6 := (after_of_writes_sub w1C Y w1C_writes (r := main_v44_6) (by decide +kernel)).trans k6
  have c7 := (after_of_writes_sub w1C Y w1C_writes (r := main_v44_7) (by decide +kernel)).trans k7
  have cs := (after_of_writes_sub w1C Y w1C_writes (r := main_while1b_v78) (by decide +kernel)).trans s
  generalize after w1C Y = Y at e c6 c7 cs ⊢
  have d : after w1D Y (Proc.devRef .tc main_while1b_v83) = select (broadcastInDim S4096x64 ![] bcast_S_S4096x64 (fun _ => b : IVec S_ 1)) (m2 W) (m2 (stp M H L Z W)) := by
    refine Eq.trans (b := select (broadcastInDim S4096x64 ![] bcast_S_S4096x64 (Y (Proc.devRef .tc main_v44_7) : IVec S_ 1)) (Y (Proc.devRef .tc main_v44_6)) (Y (Proc.devRef .tc main_while1b_v78))) ?_ ?_
    · after_results
      rfl
    · rw [c6, c7, cs]
      rfl
  have d7 := (after_of_writes_sub w1D Y w1D_writes (r := main_v44_7) (by decide +kernel)).trans c7
  have de := (after_of_writes_sub w1D Y w1D_writes (r := main_while1b_v82) (by decide +kernel)).trans e
  generalize after w1D Y = Y at d d7 de ⊢
  refine ⟨?_, ?_⟩
  · have f : after w1E Y (Proc.devRef .tc main_v44_6) = Y (Proc.devRef .tc main_while1b_v83) := by
      after_results
      rfl
    rw [f, d]
    rcases (show ∀ b : BitVec 1, b = 0#1 ∨ b = 1#1 by decide) b with rfl | rfl
    · rw [adv, if_pos rfl]
      rfl
    · rw [adv, if_neg (show ¬ (1#1 : BitVec 1) = 0#1 by decide)]
      rfl
  · have f : after w1E Y (Proc.devRef .tc main_v44_7) = ori (Y (Proc.devRef .tc main_v44_7)) (cmpf (F := Ideal) (φ := .f32) .ole (Y (Proc.devRef .tc main_while1b_v82)) (constant (F := Ideal) S_ .f32 0x322BCC77#32)) := by
      after_results
      rfl
    rw [f, d7, de]
    funext j
    show b ||| Ideal.cmp .ole (((∑ i, ∑ s, (stp M H L Z W i s - W i s) * (stp M H L Z W i s - W i s)) / 262144 : ℝ) : EReal) (Ideal.ofBits .f32 0x322BCC77#32) = _
    rcases (show ∀ b : BitVec 1, b = 0#1 ∨ b = 1#1 by decide) b with rfl | rfl
    · rw [cmp_tol, adv, if_pos rfl]
      rfl
    · rw [adv, if_neg (show ¬ (1#1 : BitVec 1) = 0#1 by decide)]
      exact (show ∀ q : BitVec 1, 1#1 ||| q = 1#1 by decide) _

end Descent

section Whole

variable (m : (ℓ : Loc nD τ sig) → Buf (Elt Ideal) ℓ) (c : Dev nD)
variable (h0 : sitofp (F := Ideal) .f32 (m (c, Proc.devRef .tc main_arg0)) = m2 M) (h1 : m (c, Proc.devRef .tc main_arg1) = m2 W) (h2 : m (c, Proc.devRef .tc main_arg2) = m2 H)
  (h3 : m (c, Proc.devRef .tc main_arg3) = m2 L) (h4 : m (c, Proc.devRef .tc main_arg4) = m2 Z) (hM : ∀ i c, 0 ≤ M i c)

include h0 h2 hM in
/-- The power method's iterates in the loop. -/
theorem ref_pw : ∀ k, atA m k c (Proc.devRef .tc main_v35_2) = m2 fun i r => pw M H i k r
  | 0 => ref_pw0 M H (launchContents m c) h0 h2 hM
  | k + 1 => by
    have hA : atA m k c (Proc.devRef .tc main_v35_0) = m3 (A M H) :=
      (atA_keep m c main_v35_0 (by decide +kernel) k).trans (ref_A0 M H (launchContents m c) h0 h2)
    exact ref_powStep M H (after condA (atA m k c)) hM k ((condA_keep _ _ (by decide +kernel)).trans hA) ((condA_keep _ _ (by decide +kernel)).trans (ref_pw k))

include h0 h2 in
/-- The matrices after the first loop. -/
theorem ref_A32 : after condA (atA m 32 c) (Proc.devRef .tc main_v20) = m3 (A M H) :=
  (condA_keep _ _ (by decide +kernel)).trans ((atA_keep m c main_v20 (by decide +kernel) 32).trans (ref_A M H (launchContents m c) h0 h2))

include h0 h2 hM in
/-- The Rayleigh quotients at the second loop's entry. -/
theorem ref_lam1 : after midA (after condA (atA m 32 c)) (Proc.devRef .tc main_v43) = m2 fun i (_ : Fin 1) => lam M H i :=
  ref_lam M H _ hM (ref_A32 M H m c h0 h2) ((condA_keep _ _ (by decide +kernel)).trans (ref_pw M H m c h0 h2 hM 32))

include h0 h1 h2 h3 h4 hM in
/-- The second loop's entry. -/
theorem ref_entry : W1 m c (Proc.devRef .tc main_v44_0) = m3 (A M H) ∧ W1 m c (Proc.devRef .tc main_v44_1) = (m2 fun i (_ : Fin 1) => lam M H i)
    ∧ W1 m c (Proc.devRef .tc main_v44_2) = m2 L ∧ W1 m c (Proc.devRef .tc main_v44_3) = m2 (rhs M H Z) ∧ W1 m c (Proc.devRef .tc main_v44_6) = m2 W
    ∧ W1 m c (Proc.devRef .tc main_v44_4) = constant (F := Ideal) S_ .f32 0x48800000#32 ∧ W1 m c (Proc.devRef .tc main_v44_7) = fun _ => (0#1 : BitVec 1) := by
  have hA := ref_A32 M H m c h0 h2
  have hl := ref_lam1 M H m c h0 h2 hM
  have h32 : ∀ r, r ∉ preOps_W → r ∉ condA_W ++ w0A_W → after condA (atA m 32 c) (Proc.devRef .tc r) = m (c, Proc.devRef .tc r) := fun r hp hr =>
    (condA_keep _ _ fun hc => hr (List.mem_append_left _ hc)).trans ((atA_keep m c r hr 32).trans (W0_keep m c r hp))
  have a1 := (h32 main_arg1 (by decide +kernel) (by decide +kernel)).trans h1
  have a3 := (h32 main_arg3 (by decide +kernel) (by decide +kernel)).trans h3
  have av : after condA (atA m 32 c) (Proc.devRef .tc main_v3) = m2 (rhs M H Z) :=
    (condA_keep _ _ (by decide +kernel)).trans ((atA_keep m c main_v3 (by decide +kernel) 32).trans (ref_rhs M H Z (launchContents m c) h0 h2 h4))
  rw [show W1 m c = after midB (after midA (after condA (atA m 32 c))) from rfl]
  generalize after condA (atA m 32 c) = X at hA hl a1 a3 av ⊢
  refine ⟨?_, ?_, ?_, ?_, ?_, ?_, ?_⟩
  · refine Eq.trans ?_ hA
    after_results
    rfl
  · refine Eq.trans ?_ hl
    after_results
    rfl
  · refine Eq.trans ?_ a3
    after_results
    rfl
  · refine Eq.trans ?_ av
    after_results
    rfl
  · refine Eq.trans ?_ a1
    after_results
    rfl
  · after_results
    rfl
  · after_results
    rfl

include h0 h1 h2 h3 h4 hM in
/-- The iterate and the flag before every trip of the second loop. -/
theorem ref_its : ∀ k, atB m k c (Proc.devRef .tc main_v44_6) = m2 (its M H L Z W k).1 ∧ atB m k c (Proc.devRef .tc main_v44_7) = fun _ => (its M H L Z W k).2
  | 0 => by
    obtain ⟨_, _, _, _, e6, _, e7⟩ := ref_entry M H L Z W m c h0 h1 h2 h3 h4 hM
    exact ⟨e6, e7⟩
  | k + 1 => by
    obtain ⟨eA, e1, eL, e3, _, e4, _⟩ := ref_entry M H L Z W m c h0 h1 h2 h3 h4 hM
    obtain ⟨i6, i7⟩ := ref_its k
    have hk : ∀ r, r ∉ condB_W ++ (w1A_W ++ (w1B_W ++ (w1C_W ++ (w1D_W ++ w1E_W)))) → after condB (atB m k c) (Proc.devRef .tc r) = W1 m c (Proc.devRef .tc r) := fun r hr =>
      (condB_keep _ _ fun hc => hr (List.mem_append_left _ hc)).trans (atB_keep m c r hr k)
    exact ref_trip M H L Z (its M H L Z W k).1 (after condB (atB m k c)) (fun i => ne_of_gt (lam_pos H hM i)) (its M H L Z W k).2
      ((hk main_v44_0 (by decide +kernel)).trans eA) ((hk main_v44_1 (by decide +kernel)).trans e1) ((hk main_v44_2 (by decide +kernel)).trans eL)
      ((hk main_v44_3 (by decide +kernel)).trans e3) ((condB_keep _ _ (by decide +kernel)).trans i6) ((hk main_v44_4 (by decide +kernel)).trans e4)
      ((condB_keep _ _ (by decide +kernel)).trans i7)

include h0 h1 h2 h3 h4 hM in
/-- The reference's result, at real arguments, is the problem's. -/
theorem W2_m2 : W2 m c (Proc.devRef .tc main_v62) = m2 (res M H L Z W) := by
  have hl := ref_lam1 M H m c h0 h2 hM
  have hk : ∀ r, r ∉ condB_W ++ (w1A_W ++ (w1B_W ++ (w1C_W ++ (w1D_W ++ w1E_W)))) → after condB (atB m 19 c) (Proc.devRef .tc r) = W1 m c (Proc.devRef .tc r) := fun r hr =>
    (condB_keep _ _ fun hc => hr (List.mem_append_left _ hc)).trans (atB_keep m c r hr 19)
  have h32 : ∀ r, r ∉ condA_W ++ (midA_W ++ midB_W) → r ∉ condA_W ++ w0A_W → W1 m c (Proc.devRef .tc r) = W0 m c (Proc.devRef .tc r) := fun r hp hr =>
    (W1_keep m c r hp).trans (atA_keep m c r hr 32)
  have e43 : W1 m c (Proc.devRef .tc main_v43) = m2 fun i (_ : Fin 1) => lam M H i :=
    (after_of_writes_sub midB _ midB_writes (r := main_v43) (by decide +kernel)).trans hl
  exact ref_last M H L Z (its M H L Z W 19).1 (after condB (atB m 19 c)) (fun i => ne_of_gt (lam_pos H hM i))
    ((hk main_v20 (by decide +kernel)).trans ((h32 _ (by decide +kernel) (by decide +kernel)).trans (ref_A M H (launchContents m c) h0 h2)))
    ((hk main_v43 (by decide +kernel)).trans e43)
    ((hk main_arg3 (by decide +kernel)).trans ((h32 _ (by decide +kernel) (by decide +kernel)).trans ((W0_keep m c _ (by decide +kernel)).trans h3)))
    ((hk main_v3 (by decide +kernel)).trans ((h32 _ (by decide +kernel) (by decide +kernel)).trans (ref_rhs M H Z (launchContents m c) h0 h2 h4)))
    ((condB_keep _ _ (by decide +kernel)).trans (ref_its M H L Z W m c h0 h1 h2 h3 h4 hM 19).1)

end Whole

end Cert.Proof.Val

end
-- ==== Proof.Val.Pre.lean ====
module

public import proofs.«01_k».proof.Proof.Val.Lift
public import proofs.«01_k».proof.Pre_finite_and_nonnegative
public import proofs.«01_k».proof.Proof.Gen.Pre_finite_and_nonnegative
public import Idealize.ShloMosaic.Lib.ReduceAll

@[expose] public section

noncomputable section

namespace Cert.Proof.Val

open Cert.Pre_finite_and_nonnegative
open Idealize.ShloMosaic Idealize.ShloMosaic.ValueIdx

/-- The pattern of positive infinity is the largest extended real. -/
theorem ofBits_inf : Ideal.ofBits .f32 0x7F800000#32 = (⊤ : EReal) := by
  simp [Ideal.ofBits, Ideal.ieee]

/-- A number whose absolute value lies below infinity is real. -/
theorem real_of_abs_lt (x : EReal) (h : max x (-x) < ⊤) : x = ((x.toReal : ℝ) : EReal) := by
  refine (EReal.coe_toReal (fun e => ?_) fun e => ?_).symm <;> subst e <;> simp at h

/-- The index set of a scalar has one element. -/
instance scalar_one : Subsingleton S_.Idx := ⟨fun _ _ => funext fun i => i.elim0⟩

/-- An array all of whose absolute values compare below infinity is a real matrix. -/
theorem finite_m2 {a b : Nat} (x : FVec Ideal ⟨2, ![a, b]⟩ .f32) (hb : S_.BroadcastsInDim ⟨2, ![a, b]⟩ (![] : Fin 0 → Fin 2))
    (hr : (⟨2, ![a, b]⟩ : Shape).ReducesTo [0, 1] S_) (hu : 0 < S_.numel) (j : S_.Idx)
    (e : Host.reduce IntOp.andi (cmpf .olt (Host.absf x) (broadcastInDim ⟨2, ![a, b]⟩ ![] hb (constant (F := Ideal) S_ .f32 0x7F800000#32)))
      (constantI S_ 1 1#1) hr hu j = 1#1) :
    ∃ f : Fin a → Fin b → ℝ, x = m2 f := by
  refine ⟨fun p q => (x (ix2 p q)).toReal, ext2 fun p q => ?_⟩
  have h := Host.reduce_andi_all _ _ hr hu j e (ix2 p q)
  have h' : BitVec.ofBool (decide (max (x (ix2 p q)) (-(x (ix2 p q))) < Ideal.ofBits .f32 0x7F800000#32)) = 1#1 := h
  rw [ofBits_inf] at h'
  rw [m2_ix2]
  refine real_of_abs_lt _ (by_contra fun n => ?_)
  rw [decide_eq_false n] at h'
  exact absurd h' (by decide)

/-- A word that compares at least zero is nonnegative as an integer. -/
theorem word_nonneg (w : BitVec 32) (h : BitVec.ofBool (BitVec.sle 0#32 w) = 1#1) : 0 ≤ w.toInt := by
  by_cases n : BitVec.sle 0#32 w = true
  · simpa [BitVec.sle] using n
  rw [Bool.eq_false_iff.2 n] at h
  exact absurd h (by decide)

/-- What the precondition says of the arguments: the mask is a nonnegative real matrix once converted, the other four arrays are real. -/
theorem pre_m2 (a0 : IVec S4096x512 32) (a1 : FVec Ideal S4096x64 .f32) (a2 : FVec Ideal S64x512 .f32) (a3 : FVec Ideal S4096x4096 .f32)
    (a4 : FVec Ideal S4096x512 .f32) (h : fn (F := Ideal) a0 a1 a2 a3 a4 = fun _ => 1#1) :
    ∃ (M : Fin 4096 → Fin 512 → ℝ) (H : Fin 64 → Fin 512 → ℝ) (L : Fin 4096 → Fin 4096 → ℝ) (Z : Fin 4096 → Fin 512 → ℝ) (W : Fin 4096 → Fin 64 → ℝ),
      sitofp (F := Ideal) .f32 a0 = m2 M ∧ a1 = m2 W ∧ a2 = m2 H ∧ a3 = m2 L ∧ a4 = m2 Z ∧ ∀ i c, 0 ≤ M i c := by
  have j : S_.Idx := fun i => i.elim0
  obtain ⟨h, e4⟩ := IntOp.andi_eq_one.1 (congrFun h j)
  obtain ⟨h, e3⟩ := IntOp.andi_eq_one.1 h
  obtain ⟨h, e2⟩ := IntOp.andi_eq_one.1 h
  obtain ⟨e0, e1⟩ := IntOp.andi_eq_one.1 h
  obtain ⟨W, e1⟩ := finite_m2 a1 _ _ _ j e1
  obtain ⟨H, e2⟩ := finite_m2 a2 _ _ _ j e2
  obtain ⟨L, e3⟩ := finite_m2 a3 _ _ _ j e3
  obtain ⟨Z, e4⟩ := finite_m2 a4 _ _ _ j e4
  refine ⟨fun p q => ((a0 (ix2 p q)).toInt : ℝ), H, L, Z, W, ext2 fun _ _ => rfl, e1, e2, e3, e4, fun p q => ?_⟩
  exact Int.cast_nonneg (word_nonneg _ (Host.reduce_andi_all _ _ _ _ j e0 (ix2 p q)))

end Cert.Proof.Val

end
-- ==== Proof.lean ====
module

public import proofs.«01_k».proof.Defs
public import proofs.«01_k».proof.Proof.KI.FrameP
public import proofs.«01_k».proof.Proof.RI.Run
public import proofs.«01_k».proof.Proof.Val.Kernel
public import proofs.«01_k».proof.Proof.Val.Ref
public import proofs.«01_k».proof.Proof.Val.Pre
public import proofs.«01_k».proof.Proof.Gen.Kernel
public import proofs.«01_k».proof.Proof.Gen.KernelIdeal
public import proofs.«01_k».proof.Proof.Gen.ReferenceIdeal
public import proofs.«01_k».proof.Proof.Gen.Pre_finite_and_nonnegative

@[expose] public section

noncomputable section

namespace Cert.Proof

open Idealize.ShloMosaic Idealize.ShloMosaic.TcCoe
open Idealize.SL.Sem

/-- The idealized kernel runs, leaves its arguments alone and ends quiescent. -/
theorem frame_kernelIdeal : Cert.quiescent_KernelIdeal (hKernelIdeal := Cert.KernelIdeal.Gen.facts) :=
  fun m g _ => θ_run_mono (KI.run_kernel m g) fun _ hr => ⟨fun c => (hr.1 c).1, hr.2⟩

/-- The idealized reference runs, leaves its arguments alone and ends quiescent. -/
theorem frame_referenceIdeal : Cert.quiescent_ReferenceIdeal (hReferenceIdeal := Cert.ReferenceIdeal.Gen.facts) :=
  fun m g _ => θ_run_mono (RI.run_result m g) fun _ hr => ⟨fun c => (hr.1 c).1, hr.2⟩

/-- The result of the kernel is the result of the reference, where the arguments agree, are finite and no weight of the mask is negative. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hp : Cert.Pre_finite_and_nonnegative.fn (F := Ideal) (m (c, Proc.devRef .tc Cert.KernelIdeal.main_arg0)) (m (c, Proc.devRef .tc Cert.KernelIdeal.main_arg1))
      (m (c, Proc.devRef .tc Cert.KernelIdeal.main_arg2)) (m (c, Proc.devRef .tc Cert.KernelIdeal.main_arg3)) (m (c, Proc.devRef .tc Cert.KernelIdeal.main_arg4)) = fun _ => 1#1)
    (h0 : m' (c, Proc.devRef .tc Cert.ReferenceIdeal.main_arg0) = m (c, Proc.devRef .tc Cert.KernelIdeal.main_arg0))
    (h1 : m' (c, Proc.devRef .tc Cert.ReferenceIdeal.main_arg1) = m (c, Proc.devRef .tc Cert.KernelIdeal.main_arg1))
    (h2 : m' (c, Proc.devRef .tc Cert.ReferenceIdeal.main_arg2) = m (c, Proc.devRef .tc Cert.KernelIdeal.main_arg2))
    (h3 : m' (c, Proc.devRef .tc Cert.ReferenceIdeal.main_arg3) = m (c, Proc.devRef .tc Cert.KernelIdeal.main_arg3))
    (h4 : m' (c, Proc.devRef .tc Cert.ReferenceIdeal.main_arg4) = m (c, Proc.devRef .tc Cert.KernelIdeal.main_arg4)) :
    RI.W2 m' c (Proc.devRef .tc Cert.ReferenceIdeal.main_v62) = Cert.KernelIdeal.Gen.V5 m (KI.outs m) c (Proc.devRef .tc Cert.KernelIdeal.main_v10) := by
  obtain ⟨M, H, L, Z, W, e0, e1, e2, e3, e4, hM⟩ := Val.pre_m2 _ _ _ _ _ hp
  exact (Val.W2_m2 M H L Z W m' c ((congrArg (sitofp (F := Ideal) .f32) h0).trans e0) (h1.trans e1) (h2.trans e2) (h3.trans e3) (h4.trans e4) hM).trans
    (Val.V5_m2 M H L Z W m c e0 e1 e2 e3 e4 hM).symm

/-- Both programs run and end with the same result over the extended reals. -/
theorem equal_results : Cert.algebraic_KernelIdeal_ReferenceIdeal_pre_finite_and_nonnegative (hKernelIdeal := Cert.KernelIdeal.Gen.facts)
    (hReferenceIdeal := Cert.ReferenceIdeal.Gen.facts) (hPre_finite_and_nonnegative := Cert.Pre_finite_and_nonnegative.Gen.facts) :=
  fun m g m' g' hp ha => ⟨fun c => Cert.KernelIdeal.Gen.V5 m (KI.outs m) c (Proc.devRef .tc Cert.KernelIdeal.main_v10),
    θ_run_mono (KI.run_kernel m g) fun _ hr c => ⟨(hr.1 c).2, (hr.1 c).1⟩,
    θ_run_mono (RI.run_result m' g') fun _ hr c => ⟨(hr.1 c).2.trans
      (results_agree m m' c (hp c) (ha c).1 (ha c).2.1 (ha c).2.2.1 (ha c).2.2.2.1 (ha c).2.2.2.2), (hr.1 c).1⟩⟩

/-- The claims. -/
theorem claim : Cert.Claim :=
  ⟨Cert.Kernel.Gen.facts, Cert.KernelIdeal.Gen.facts, Cert.ReferenceIdeal.Gen.facts, Cert.Pre_finite_and_nonnegative.Gen.facts,
    KI.frame_kernel, frame_kernelIdeal, fun m g _ => frame_kernelIdeal m g trivial, frame_referenceIdeal,
    fun m g _ => frame_referenceIdeal m g trivial, trivial, equal_results⟩

end Cert.Proof

end
